-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnPe (m : (ℓ : Loc Cert.FfnPe.nD Cert.FfnPe.τ Cert.FfnPe.sig) → Buf (Elt Bits) ℓ) : Prop :=
  True

def Pre_FfnPeIdeal (m : (ℓ : Loc Cert.FfnPeIdeal.nD Cert.FfnPeIdeal.τ Cert.FfnPeIdeal.sig) → Buf (Elt Ideal) ℓ) : Prop :=
  True

def Pre_FfnPeRefIdeal (m : (ℓ : Loc Cert.FfnPeRefIdeal.nD Cert.FfnPeRefIdeal.τ Cert.FfnPeRefIdeal.sig) → Buf (Elt Ideal) ℓ) : Prop :=
  True

def Pre_Zx (m : (ℓ : Loc Cert.Zx.nD Cert.Zx.τ Cert.Zx.sig) → Buf (Elt Bits) ℓ) : Prop :=
  True

def Pre_ZxIdeal (m : (ℓ : Loc Cert.ZxIdeal.nD Cert.ZxIdeal.τ Cert.ZxIdeal.sig) → Buf (Elt Ideal) ℓ) : Prop :=
  True

def Pre_ZxRefIdeal (m : (ℓ : Loc Cert.ZxRefIdeal.nD Cert.ZxRefIdeal.τ Cert.ZxRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnPe [hFfnPe : Cert.FfnPe.Facts] : Prop :=
  ∀ (m : (ℓ : Loc Cert.FfnPe.nD Cert.FfnPe.τ Cert.FfnPe.sig) → Buf (Elt Bits) ℓ) (g : Dev Cert.FfnPe.nD → PrngReg), Pre_FfnPe m →
    θ_run (Cert.FfnPe.defs (F := Bits)) (onTc (τ := Cert.FfnPe.τ) (Cert.FfnPe.main (F := Bits))) ⟨m, fun _ => 0, g⟩ (fun r => (∀ c : Dev Cert.FfnPe.nD,
      r.2.mem ((c.tc : Thread Cert.FfnPe.nD Cert.FfnPe.τ).loc Cert.FfnPe.main_arg0) = m ((c.tc : Thread Cert.FfnPe.nD Cert.FfnPe.τ).loc Cert.FfnPe.main_arg0)
      ∧ r.2.mem ((c.tc : Thread Cert.FfnPe.nD Cert.FfnPe.τ).loc Cert.FfnPe.main_arg1) = m ((c.tc : Thread Cert.FfnPe.nD Cert.FfnPe.τ).loc Cert.FfnPe.main_arg1)
      ∧ r.2.mem ((c.tc : Thread Cert.FfnPe.nD Cert.FfnPe.τ).loc Cert.FfnPe.main_arg2) = m ((c.tc : Thread Cert.FfnPe.nD Cert.FfnPe.τ).loc Cert.FfnPe.main_arg2)
      ∧ r.2.mem ((c.tc : Thread Cert.FfnPe.nD Cert.FfnPe.τ).loc Cert.FfnPe.main_arg3) = m ((c.tc : Thread Cert.FfnPe.nD Cert.FfnPe.τ).loc Cert.FfnPe.main_arg3)
      ∧ r.2.mem ((c.tc : Thread Cert.FfnPe.nD Cert.FfnPe.τ).loc Cert.FfnPe.main_arg4) = m ((c.tc : Thread Cert.FfnPe.nD Cert.FfnPe.τ).loc Cert.FfnPe.main_arg4)
      ∧ r.2.mem ((c.tc : Thread Cert.FfnPe.nD Cert.FfnPe.τ).loc Cert.FfnPe.main_arg5) = m ((c.tc : Thread Cert.FfnPe.nD Cert.FfnPe.τ).loc Cert.FfnPe.main_arg5)
      ∧ r.2.mem ((c.tc : Thread Cert.FfnPe.nD Cert.FfnPe.τ).loc Cert.FfnPe.main_arg6) = m ((c.tc : Thread Cert.FfnPe.nD Cert.FfnPe.τ).loc Cert.FfnPe.main_arg6)
      ∧ r.2.mem ((c.tc : Thread Cert.FfnPe.nD Cert.FfnPe.τ).loc Cert.FfnPe.main_arg7) = m ((c.tc : Thread Cert.FfnPe.nD Cert.FfnPe.τ).loc Cert.FfnPe.main_arg7))
      ∧ r.2.sem = fun _ => 0)

def quiescent_FfnPeIdeal [hFfnPeIdeal : Cert.FfnPeIdeal.Facts] : Prop :=
  ∀ (m : (ℓ : Loc Cert.FfnPeIdeal.nD Cert.FfnPeIdeal.τ Cert.FfnPeIdeal.sig) → Buf (Elt Ideal) ℓ) (g : Dev Cert.FfnPeIdeal.nD → PrngReg), Pre_FfnPeIdeal m →
    θ_run (Cert.FfnPeIdeal.defs (F := Ideal)) (onTc (τ := Cert.FfnPeIdeal.τ) (Cert.FfnPeIdeal.main (F := Ideal))) ⟨m, fun _ => 0, g⟩ (fun r => (∀ c : Dev Cert.FfnPeIdeal.nD,
      r.2.mem ((c.tc : Thread Cert.FfnPeIdeal.nD Cert.FfnPeIdeal.τ).loc Cert.FfnPeIdeal.main_arg0) = m ((c.tc : Thread Cert.FfnPeIdeal.nD Cert.FfnPeIdeal.τ).loc Cert.FfnPeIdeal.main_arg0)
      ∧ r.2.mem ((c.tc : Thread Cert.FfnPeIdeal.nD Cert.FfnPeIdeal.τ).loc Cert.FfnPeIdeal.main_arg1) = m ((c.tc : Thread Cert.FfnPeIdeal.nD Cert.FfnPeIdeal.τ).loc Cert.FfnPeIdeal.main_arg1)
      ∧ r.2.mem ((c.tc : Thread Cert.FfnPeIdeal.nD Cert.FfnPeIdeal.τ).loc Cert.FfnPeIdeal.main_arg2) = m ((c.tc : Thread Cert.FfnPeIdeal.nD Cert.FfnPeIdeal.τ).loc Cert.FfnPeIdeal.main_arg2)
      ∧ r.2.mem ((c.tc : Thread Cert.FfnPeIdeal.nD Cert.FfnPeIdeal.τ).loc Cert.FfnPeIdeal.main_arg3) = m ((c.tc : Thread Cert.FfnPeIdeal.nD Cert.FfnPeIdeal.τ).loc Cert.FfnPeIdeal.main_arg3)
      ∧ r.2.mem ((c.tc : Thread Cert.FfnPeIdeal.nD Cert.FfnPeIdeal.τ).loc Cert.FfnPeIdeal.main_arg4) = m ((c.tc : Thread Cert.FfnPeIdeal.nD Cert.FfnPeIdeal.τ).loc Cert.FfnPeIdeal.main_arg4)
      ∧ r.2.mem ((c.tc : Thread Cert.FfnPeIdeal.nD Cert.FfnPeIdeal.τ).loc Cert.FfnPeIdeal.main_arg5) = m ((c.tc : Thread Cert.FfnPeIdeal.nD Cert.FfnPeIdeal.τ).loc Cert.FfnPeIdeal.main_arg5)
      ∧ r.2.mem ((c.tc : Thread Cert.FfnPeIdeal.nD Cert.FfnPeIdeal.τ).loc Cert.FfnPeIdeal.main_arg6) = m ((c.tc : Thread Cert.FfnPeIdeal.nD Cert.FfnPeIdeal.τ).loc Cert.FfnPeIdeal.main_arg6)
      ∧ r.2.mem ((c.tc : Thread Cert.FfnPeIdeal.nD Cert.FfnPeIdeal.τ).loc Cert.FfnPeIdeal.main_arg7) = m ((c.tc : Thread Cert.FfnPeIdeal.nD Cert.FfnPeIdeal.τ).loc Cert.FfnPeIdeal.main_arg7))
      ∧ r.2.sem = fun _ => 0)

def quiescent_FfnPeRefIdeal [hFfnPeRefIdeal : Cert.FfnPeRefIdeal.Facts] : Prop :=
  ∀ (m : (ℓ : Loc Cert.FfnPeRefIdeal.nD Cert.FfnPeRefIdeal.τ Cert.FfnPeRefIdeal.sig) → Buf (Elt Ideal) ℓ) (g : Dev Cert.FfnPeRefIdeal.nD → PrngReg), Pre_FfnPeRefIdeal m →
    θ_run (Cert.FfnPeRefIdeal.defs (F := Ideal)) (onTc (τ := Cert.FfnPeRefIdeal.τ) (Cert.FfnPeRefIdeal.main (F := Ideal))) ⟨m, fun _ => 0, g⟩ (fun r => (∀ c : Dev Cert.FfnPeRefIdeal.nD,
      r.2.mem ((c.tc : Thread Cert.FfnPeRefIdeal.nD Cert.FfnPeRefIdeal.τ).loc Cert.FfnPeRefIdeal.main_arg0) = m ((c.tc : Thread Cert.FfnPeRefIdeal.nD Cert.FfnPeRefIdeal.τ).loc Cert.FfnPeRefIdeal.main_arg0)
      ∧ r.2.mem ((c.tc : Thread Cert.FfnPeRefIdeal.nD Cert.FfnPeRefIdeal.τ).loc Cert.FfnPeRefIdeal.main_arg1) = m ((c.tc : Thread Cert.FfnPeRefIdeal.nD Cert.FfnPeRefIdeal.τ).loc Cert.FfnPeRefIdeal.main_arg1)
      ∧ r.2.mem ((c.tc : Thread Cert.FfnPeRefIdeal.nD Cert.FfnPeRefIdeal.τ).loc Cert.FfnPeRefIdeal.main_arg2) = m ((c.tc : Thread Cert.FfnPeRefIdeal.nD Cert.FfnPeRefIdeal.τ).loc Cert.FfnPeRefIdeal.main_arg2)
      ∧ r.2.mem ((c.tc : Thread Cert.FfnPeRefIdeal.nD Cert.FfnPeRefIdeal.τ).loc Cert.FfnPeRefIdeal.main_arg3) = m ((c.tc : Thread Cert.FfnPeRefIdeal.nD Cert.FfnPeRefIdeal.τ).loc Cert.FfnPeRefIdeal.main_arg3)
      ∧ r.2.mem ((c.tc : Thread Cert.FfnPeRefIdeal.nD Cert.FfnPeRefIdeal.τ).loc Cert.FfnPeRefIdeal.main_arg4) = m ((c.tc : Thread Cert.FfnPeRefIdeal.nD Cert.FfnPeRefIdeal.τ).loc Cert.FfnPeRefIdeal.main_arg4)
      ∧ r.2.mem ((c.tc : Thread Cert.FfnPeRefIdeal.nD Cert.FfnPeRefIdeal.τ).loc Cert.FfnPeRefIdeal.main_arg5) = m ((c.tc : Thread Cert.FfnPeRefIdeal.nD Cert.FfnPeRefIdeal.τ).loc Cert.FfnPeRefIdeal.main_arg5)
      ∧ r.2.mem ((c.tc : Thread Cert.FfnPeRefIdeal.nD Cert.FfnPeRefIdeal.τ).loc Cert.FfnPeRefIdeal.main_arg6) = m ((c.tc : Thread Cert.FfnPeRefIdeal.nD Cert.FfnPeRefIdeal.τ).loc Cert.FfnPeRefIdeal.main_arg6)
      ∧ r.2.mem ((c.tc : Thread Cert.FfnPeRefIdeal.nD Cert.FfnPeRefIdeal.τ).loc Cert.FfnPeRefIdeal.main_arg7) = m ((c.tc : Thread Cert.FfnPeRefIdeal.nD Cert.FfnPeRefIdeal.τ).loc Cert.FfnPeRefIdeal.main_arg7))
      ∧ r.2.sem = fun _ => 0)

def quiescent_Zx [hZx : Cert.Zx.Facts] : Prop :=
  ∀ (m : (ℓ : Loc Cert.Zx.nD Cert.Zx.τ Cert.Zx.sig) → Buf (Elt Bits) ℓ) (g : Dev Cert.Zx.nD → PrngReg), Pre_Zx m →
    θ_run (Cert.Zx.defs (F := Bits)) (onTc (τ := Cert.Zx.τ) (Cert.Zx.main (F := Bits))) ⟨m, fun _ => 0, g⟩ (fun r => (∀ c : Dev Cert.Zx.nD,
      r.2.mem ((c.tc : Thread Cert.Zx.nD Cert.Zx.τ).loc Cert.Zx.main_arg0) = m ((c.tc : Thread Cert.Zx.nD Cert.Zx.τ).loc Cert.Zx.main_arg0)
      ∧ r.2.mem ((c.tc : Thread Cert.Zx.nD Cert.Zx.τ).loc Cert.Zx.main_arg1) = m ((c.tc : Thread Cert.Zx.nD Cert.Zx.τ).loc Cert.Zx.main_arg1)
      ∧ r.2.mem ((c.tc : Thread Cert.Zx.nD Cert.Zx.τ).loc Cert.Zx.main_arg2) = m ((c.tc : Thread Cert.Zx.nD Cert.Zx.τ).loc Cert.Zx.main_arg2)
      ∧ r.2.mem ((c.tc : Thread Cert.Zx.nD Cert.Zx.τ).loc Cert.Zx.main_arg3) = m ((c.tc : Thread Cert.Zx.nD Cert.Zx.τ).loc Cert.Zx.main_arg3)
      ∧ r.2.mem ((c.tc : Thread Cert.Zx.nD Cert.Zx.τ).loc Cert.Zx.main_arg4) = m ((c.tc : Thread Cert.Zx.nD Cert.Zx.τ).loc Cert.Zx.main_arg4))
      ∧ r.2.sem = fun _ => 0)

def quiescent_ZxIdeal [hZxIdeal : Cert.ZxIdeal.Facts] : Prop :=
  ∀ (m : (ℓ : Loc Cert.ZxIdeal.nD Cert.ZxIdeal.τ Cert.ZxIdeal.sig) → Buf (Elt Ideal) ℓ) (g : Dev Cert.ZxIdeal.nD → PrngReg), Pre_ZxIdeal m →
    θ_run (Cert.ZxIdeal.defs (F := Ideal)) (onTc (τ := Cert.ZxIdeal.τ) (Cert.ZxIdeal.main (F := Ideal))) ⟨m, fun _ => 0, g⟩ (fun r => (∀ c : Dev Cert.ZxIdeal.nD,
      r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
      ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1)
      ∧ r.2.mem ((c.tc : Thread Cert.ZxIdeal.nD Cert.ZxIdeal.τ).loc Cert.ZxIdeal.main_arg2) = m ((c.tc : Thread Cert.ZxIdeal.nD Cert.ZxIdeal.τ).loc Cert.ZxIdeal.main_arg2)
      ∧ r.2.mem ((c.tc : Thread Cert.ZxIdeal.nD Cert.ZxIdeal.τ).loc Cert.ZxIdeal.main_arg3) = m ((c.tc : Thread Cert.ZxIdeal.nD Cert.ZxIdeal.τ).loc Cert.ZxIdeal.main_arg3)
      ∧ r.2.mem ((c.tc : Thread Cert.ZxIdeal.nD Cert.ZxIdeal.τ).loc Cert.ZxIdeal.main_arg4) = m ((c.tc : Thread Cert.ZxIdeal.nD Cert.ZxIdeal.τ).loc Cert.ZxIdeal.main_arg4))
      ∧ r.2.sem = fun _ => 0)

def quiescent_ZxRefIdeal [hZxRefIdeal : Cert.ZxRefIdeal.Facts] : Prop :=
  ∀ (m : (ℓ : Loc Cert.ZxRefIdeal.nD Cert.ZxRefIdeal.τ Cert.ZxRefIdeal.sig) → Buf (Elt Ideal) ℓ) (g : Dev Cert.ZxRefIdeal.nD → PrngReg), Pre_ZxRefIdeal m →
    θ_run (Cert.ZxRefIdeal.defs (F := Ideal)) (onTc (τ := Cert.ZxRefIdeal.τ) (Cert.ZxRefIdeal.main (F := Ideal))) ⟨m, fun _ => 0, g⟩ (fun r => (∀ c : Dev Cert.ZxRefIdeal.nD,
      r.2.mem ((c.tc : Thread Cert.ZxRefIdeal.nD Cert.ZxRefIdeal.τ).loc Cert.ZxRefIdeal.main_arg0) = m ((c.tc : Thread Cert.ZxRefIdeal.nD Cert.ZxRefIdeal.τ).loc Cert.ZxRefIdeal.main_arg0)
      ∧ r.2.mem ((c.tc : Thread Cert.ZxRefIdeal.nD Cert.ZxRefIdeal.τ).loc Cert.ZxRefIdeal.main_arg1) = m ((c.tc : Thread Cert.ZxRefIdeal.nD Cert.ZxRefIdeal.τ).loc Cert.ZxRefIdeal.main_arg1)
      ∧ r.2.mem ((c.tc : Thread Cert.ZxRefIdeal.nD Cert.ZxRefIdeal.τ).loc Cert.ZxRefIdeal.main_arg2) = m ((c.tc : Thread Cert.ZxRefIdeal.nD Cert.ZxRefIdeal.τ).loc Cert.ZxRefIdeal.main_arg2)
      ∧ r.2.mem ((c.tc : Thread Cert.ZxRefIdeal.nD Cert.ZxRefIdeal.τ).loc Cert.ZxRefIdeal.main_arg3) = m ((c.tc : Thread Cert.ZxRefIdeal.nD Cert.ZxRefIdeal.τ).loc Cert.ZxRefIdeal.main_arg3)
      ∧ r.2.mem ((c.tc : Thread Cert.ZxRefIdeal.nD Cert.ZxRefIdeal.τ).loc Cert.ZxRefIdeal.main_arg4) = m ((c.tc : Thread Cert.ZxRefIdeal.nD Cert.ZxRefIdeal.τ).loc Cert.ZxRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnPe_FfnPeIdeal : Prop :=
  True

def algebraic_FfnPeIdeal_FfnPeRefIdeal [hFfnPeIdeal : Cert.FfnPeIdeal.Facts] [hFfnPeRefIdeal : Cert.FfnPeRefIdeal.Facts] : Prop :=
  ∀ (m : (ℓ : Loc Cert.FfnPeIdeal.nD Cert.FfnPeIdeal.τ Cert.FfnPeIdeal.sig) → Buf (Elt Ideal) ℓ) (g : Dev Cert.FfnPeIdeal.nD → PrngReg)
    (m' : (ℓ : Loc Cert.FfnPeRefIdeal.nD Cert.FfnPeRefIdeal.τ Cert.FfnPeRefIdeal.sig) → Buf (Elt Ideal) ℓ) (g' : Dev Cert.FfnPeRefIdeal.nD → PrngReg), Pre_FfnPeIdeal m →
    (∀ c : Dev Cert.FfnPeIdeal.nD,
      m' ((c.tc : Thread Cert.FfnPeRefIdeal.nD Cert.FfnPeRefIdeal.τ).loc Cert.FfnPeRefIdeal.main_arg0) = m ((c.tc : Thread Cert.FfnPeIdeal.nD Cert.FfnPeIdeal.τ).loc Cert.FfnPeIdeal.main_arg0)
      ∧ m' ((c.tc : Thread Cert.FfnPeRefIdeal.nD Cert.FfnPeRefIdeal.τ).loc Cert.FfnPeRefIdeal.main_arg1) = m ((c.tc : Thread Cert.FfnPeIdeal.nD Cert.FfnPeIdeal.τ).loc Cert.FfnPeIdeal.main_arg1)
      ∧ m' ((c.tc : Thread Cert.FfnPeRefIdeal.nD Cert.FfnPeRefIdeal.τ).loc Cert.FfnPeRefIdeal.main_arg2) = m ((c.tc : Thread Cert.FfnPeIdeal.nD Cert.FfnPeIdeal.τ).loc Cert.FfnPeIdeal.main_arg2)
      ∧ m' ((c.tc : Thread Cert.FfnPeRefIdeal.nD Cert.FfnPeRefIdeal.τ).loc Cert.FfnPeRefIdeal.main_arg3) = m ((c.tc : Thread Cert.FfnPeIdeal.nD Cert.FfnPeIdeal.τ).loc Cert.FfnPeIdeal.main_arg3)
      ∧ m' ((c.tc : Thread Cert.FfnPeRefIdeal.nD Cert.FfnPeRefIdeal.τ).loc Cert.FfnPeRefIdeal.main_arg4) = m ((c.tc : Thread Cert.FfnPeIdeal.nD Cert.FfnPeIdeal.τ).loc Cert.FfnPeIdeal.main_arg4)
      ∧ m' ((c.tc : Thread Cert.FfnPeRefIdeal.nD Cert.FfnPeRefIdeal.τ).loc Cert.FfnPeRefIdeal.main_arg5) = m ((c.tc : Thread Cert.FfnPeIdeal.nD Cert.FfnPeIdeal.τ).loc Cert.FfnPeIdeal.main_arg5)
      ∧ m' ((c.tc : Thread Cert.FfnPeRefIdeal.nD Cert.FfnPeRefIdeal.τ).loc Cert.FfnPeRefIdeal.main_arg6) = m ((c.tc : Thread Cert.FfnPeIdeal.nD Cert.FfnPeIdeal.τ).loc Cert.FfnPeIdeal.main_arg6)
      ∧ m' ((c.tc : Thread Cert.FfnPeRefIdeal.nD Cert.FfnPeRefIdeal.τ).loc Cert.FfnPeRefIdeal.main_arg7) = m ((c.tc : Thread Cert.FfnPeIdeal.nD Cert.FfnPeIdeal.τ).loc Cert.FfnPeIdeal.main_arg7)) →
    ∃ (v0 : (c : Dev Cert.FfnPeIdeal.nD) → Buf (Elt Ideal) ((c.tc : Thread Cert.FfnPeIdeal.nD Cert.FfnPeIdeal.τ).loc Cert.FfnPeIdeal.main_v0)),
      θ_run (Cert.FfnPeIdeal.defs (F := Ideal)) (onTc (τ := Cert.FfnPeIdeal.τ) (Cert.FfnPeIdeal.main (F := Ideal))) ⟨m, fun _ => 0, g⟩ (fun r => ∀ c : Dev Cert.FfnPeIdeal.nD,
          r.2.mem ((c.tc : Thread Cert.FfnPeIdeal.nD Cert.FfnPeIdeal.τ).loc Cert.FfnPeIdeal.main_v0) = v0 c
          ∧ r.2.mem ((c.tc : Thread Cert.FfnPeIdeal.nD Cert.FfnPeIdeal.τ).loc Cert.FfnPeIdeal.main_arg0) = m ((c.tc : Thread Cert.FfnPeIdeal.nD Cert.FfnPeIdeal.τ).loc Cert.FfnPeIdeal.main_arg0)
          ∧ r.2.mem ((c.tc : Thread Cert.FfnPeIdeal.nD Cert.FfnPeIdeal.τ).loc Cert.FfnPeIdeal.main_arg1) = m ((c.tc : Thread Cert.FfnPeIdeal.nD Cert.FfnPeIdeal.τ).loc Cert.FfnPeIdeal.main_arg1)
          ∧ r.2.mem ((c.tc : Thread Cert.FfnPeIdeal.nD Cert.FfnPeIdeal.τ).loc Cert.FfnPeIdeal.main_arg2) = m ((c.tc : Thread Cert.FfnPeIdeal.nD Cert.FfnPeIdeal.τ).loc Cert.FfnPeIdeal.main_arg2)
          ∧ r.2.mem ((c.tc : Thread Cert.FfnPeIdeal.nD Cert.FfnPeIdeal.τ).loc Cert.FfnPeIdeal.main_arg3) = m ((c.tc : Thread Cert.FfnPeIdeal.nD Cert.FfnPeIdeal.τ).loc Cert.FfnPeIdeal.main_arg3)
          ∧ r.2.mem ((c.tc : Thread Cert.FfnPeIdeal.nD Cert.FfnPeIdeal.τ).loc Cert.FfnPeIdeal.main_arg4) = m ((c.tc : Thread Cert.FfnPeIdeal.nD Cert.FfnPeIdeal.τ).loc Cert.FfnPeIdeal.main_arg4)
          ∧ r.2.mem ((c.tc : Thread Cert.FfnPeIdeal.nD Cert.FfnPeIdeal.τ).loc Cert.FfnPeIdeal.main_arg5) = m ((c.tc : Thread Cert.FfnPeIdeal.nD Cert.FfnPeIdeal.τ).loc Cert.FfnPeIdeal.main_arg5)
          ∧ r.2.mem ((c.tc : Thread Cert.FfnPeIdeal.nD Cert.FfnPeIdeal.τ).loc Cert.FfnPeIdeal.main_arg6) = m ((c.tc : Thread Cert.FfnPeIdeal.nD Cert.FfnPeIdeal.τ).loc Cert.FfnPeIdeal.main_arg6)
          ∧ r.2.mem ((c.tc : Thread Cert.FfnPeIdeal.nD Cert.FfnPeIdeal.τ).loc Cert.FfnPeIdeal.main_arg7) = m ((c.tc : Thread Cert.FfnPeIdeal.nD Cert.FfnPeIdeal.τ).loc Cert.FfnPeIdeal.main_arg7))
      ∧ θ_run (Cert.FfnPeRefIdeal.defs (F := Ideal)) (onTc (τ := Cert.FfnPeRefIdeal.τ) (Cert.FfnPeRefIdeal.main (F := Ideal))) ⟨m', fun _ => 0, g'⟩ (fun r => ∀ c : Dev Cert.FfnPeRefIdeal.nD,
          r.2.mem ((c.tc : Thread Cert.FfnPeRefIdeal.nD Cert.FfnPeRefIdeal.τ).loc Cert.FfnPeRefIdeal.main_v50) = v0 c
          ∧ r.2.mem ((c.tc : Thread Cert.FfnPeRefIdeal.nD Cert.FfnPeRefIdeal.τ).loc Cert.FfnPeRefIdeal.main_arg0) = m' ((c.tc : Thread Cert.FfnPeRefIdeal.nD Cert.FfnPeRefIdeal.τ).loc Cert.FfnPeRefIdeal.main_arg0)
          ∧ r.2.mem ((c.tc : Thread Cert.FfnPeRefIdeal.nD Cert.FfnPeRefIdeal.τ).loc Cert.FfnPeRefIdeal.main_arg1) = m' ((c.tc : Thread Cert.FfnPeRefIdeal.nD Cert.FfnPeRefIdeal.τ).loc Cert.FfnPeRefIdeal.main_arg1)
          ∧ r.2.mem ((c.tc : Thread Cert.FfnPeRefIdeal.nD Cert.FfnPeRefIdeal.τ).loc Cert.FfnPeRefIdeal.main_arg2) = m' ((c.tc : Thread Cert.FfnPeRefIdeal.nD Cert.FfnPeRefIdeal.τ).loc Cert.FfnPeRefIdeal.main_arg2)
          ∧ r.2.mem ((c.tc : Thread Cert.FfnPeRefIdeal.nD Cert.FfnPeRefIdeal.τ).loc Cert.FfnPeRefIdeal.main_arg3) = m' ((c.tc : Thread Cert.FfnPeRefIdeal.nD Cert.FfnPeRefIdeal.τ).loc Cert.FfnPeRefIdeal.main_arg3)
          ∧ r.2.mem ((c.tc : Thread Cert.FfnPeRefIdeal.nD Cert.FfnPeRefIdeal.τ).loc Cert.FfnPeRefIdeal.main_arg4) = m' ((c.tc : Thread Cert.FfnPeRefIdeal.nD Cert.FfnPeRefIdeal.τ).loc Cert.FfnPeRefIdeal.main_arg4)
          ∧ r.2.mem ((c.tc : Thread Cert.FfnPeRefIdeal.nD Cert.FfnPeRefIdeal.τ).loc Cert.FfnPeRefIdeal.main_arg5) = m' ((c.tc : Thread Cert.FfnPeRefIdeal.nD Cert.FfnPeRefIdeal.τ).loc Cert.FfnPeRefIdeal.main_arg5)
          ∧ r.2.mem ((c.tc : Thread Cert.FfnPeRefIdeal.nD Cert.FfnPeRefIdeal.τ).loc Cert.FfnPeRefIdeal.main_arg6) = m' ((c.tc : Thread Cert.FfnPeRefIdeal.nD Cert.FfnPeRefIdeal.τ).loc Cert.FfnPeRefIdeal.main_arg6)
          ∧ r.2.mem ((c.tc : Thread Cert.FfnPeRefIdeal.nD Cert.FfnPeRefIdeal.τ).loc Cert.FfnPeRefIdeal.main_arg7) = m' ((c.tc : Thread Cert.FfnPeRefIdeal.nD Cert.FfnPeRefIdeal.τ).loc Cert.FfnPeRefIdeal.main_arg7))

def preserves_Zx_ZxIdeal : Prop :=
  True

def algebraic_ZxIdeal_ZxRefIdeal [hZxIdeal : Cert.ZxIdeal.Facts] [hZxRefIdeal : Cert.ZxRefIdeal.Facts] : Prop :=
  ∀ (m : (ℓ : Loc Cert.ZxIdeal.nD Cert.ZxIdeal.τ Cert.ZxIdeal.sig) → Buf (Elt Ideal) ℓ) (g : Dev Cert.ZxIdeal.nD → PrngReg)
    (m' : (ℓ : Loc Cert.ZxRefIdeal.nD Cert.ZxRefIdeal.τ Cert.ZxRefIdeal.sig) → Buf (Elt Ideal) ℓ) (g' : Dev Cert.ZxRefIdeal.nD → PrngReg), Pre_ZxIdeal m →
    (∀ c : Dev Cert.ZxIdeal.nD,
      m' ((c.tc : Thread Cert.ZxRefIdeal.nD Cert.ZxRefIdeal.τ).loc Cert.ZxRefIdeal.main_arg0) = m ((c.tc : Thread Cert.ZxIdeal.nD Cert.ZxIdeal.τ).loc Cert.ZxIdeal.main_arg0)
      ∧ m' ((c.tc : Thread Cert.ZxRefIdeal.nD Cert.ZxRefIdeal.τ).loc Cert.ZxRefIdeal.main_arg1) = m ((c.tc : Thread Cert.ZxIdeal.nD Cert.ZxIdeal.τ).loc Cert.ZxIdeal.main_arg1)
      ∧ m' ((c.tc : Thread Cert.ZxRefIdeal.nD Cert.ZxRefIdeal.τ).loc Cert.ZxRefIdeal.main_arg2) = m ((c.tc : Thread Cert.ZxIdeal.nD Cert.ZxIdeal.τ).loc Cert.ZxIdeal.main_arg2)
      ∧ m' ((c.tc : Thread Cert.ZxRefIdeal.nD Cert.ZxRefIdeal.τ).loc Cert.ZxRefIdeal.main_arg3) = m ((c.tc : Thread Cert.ZxIdeal.nD Cert.ZxIdeal.τ).loc Cert.ZxIdeal.main_arg3)
      ∧ m' ((c.tc : Thread Cert.ZxRefIdeal.nD Cert.ZxRefIdeal.τ).loc Cert.ZxRefIdeal.main_arg4) = m ((c.tc : Thread Cert.ZxIdeal.nD Cert.ZxIdeal.τ).loc Cert.ZxIdeal.main_arg4)) →
    ∃ (v0 : (c : Dev Cert.ZxIdeal.nD) → Buf (Elt Ideal) ((c.tc : Thread Cert.ZxIdeal.nD Cert.ZxIdeal.τ).loc Cert.ZxIdeal.main_v0_0)) (v1 : (c : Dev Cert.ZxIdeal.nD) → Buf (Elt Ideal) ((c.tc : Thread Cert.ZxIdeal.nD Cert.ZxIdeal.τ).loc Cert.ZxIdeal.main_v0_1)) (v2 : (c : Dev Cert.ZxIdeal.nD) → Buf (Elt Ideal) ((c.tc : Thread Cert.ZxIdeal.nD Cert.ZxIdeal.τ).loc Cert.ZxIdeal.main_v0_2)),
      θ_run (Cert.ZxIdeal.defs (F := Ideal)) (onTc (τ := Cert.ZxIdeal.τ) (Cert.ZxIdeal.main (F := Ideal))) ⟨m, fun _ => 0, g⟩ (fun r => ∀ c : Dev Cert.ZxIdeal.nD,
          r.2.mem ((c.tc : Thread Cert.ZxIdeal.nD Cert.ZxIdeal.τ).loc Cert.ZxIdeal.main_v0_0) = v0 c
          ∧ r.2.mem ((c.tc : Thread Cert.ZxIdeal.nD Cert.ZxIdeal.τ).loc Cert.ZxIdeal.main_v0_1) = v1 c
          ∧ r.2.mem ((c.tc : Thread Cert.ZxIdeal.nD Cert.ZxIdeal.τ).loc Cert.ZxIdeal.main_v0_2) = v2 c
          ∧ r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
          ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1)
          ∧ r.2.mem ((c.tc : Thread Cert.ZxIdeal.nD Cert.ZxIdeal.τ).loc Cert.ZxIdeal.main_arg2) = m ((c.tc : Thread Cert.ZxIdeal.nD Cert.ZxIdeal.τ).loc Cert.ZxIdeal.main_arg2)
          ∧ r.2.mem ((c.tc : Thread Cert.ZxIdeal.nD Cert.ZxIdeal.τ).loc Cert.ZxIdeal.main_arg3) = m ((c.tc : Thread Cert.ZxIdeal.nD Cert.ZxIdeal.τ).loc Cert.ZxIdeal.main_arg3)
          ∧ r.2.mem ((c.tc : Thread Cert.ZxIdeal.nD Cert.ZxIdeal.τ).loc Cert.ZxIdeal.main_arg4) = m ((c.tc : Thread Cert.ZxIdeal.nD Cert.ZxIdeal.τ).loc Cert.ZxIdeal.main_arg4))
      ∧ θ_run (Cert.ZxRefIdeal.defs (F := Ideal)) (onTc (τ := Cert.ZxRefIdeal.τ) (Cert.ZxRefIdeal.main (F := Ideal))) ⟨m', fun _ => 0, g'⟩ (fun r => ∀ c : Dev Cert.ZxRefIdeal.nD,
          r.2.mem ((c.tc : Thread Cert.ZxRefIdeal.nD Cert.ZxRefIdeal.τ).loc Cert.ZxRefIdeal.main_v41) = v0 c
          ∧ r.2.mem ((c.tc : Thread Cert.ZxRefIdeal.nD Cert.ZxRefIdeal.τ).loc Cert.ZxRefIdeal.main_v43) = v1 c
          ∧ r.2.mem ((c.tc : Thread Cert.ZxRefIdeal.nD Cert.ZxRefIdeal.τ).loc Cert.ZxRefIdeal.main_v44) = v2 c
          ∧ r.2.mem ((c.tc : Thread Cert.ZxRefIdeal.nD Cert.ZxRefIdeal.τ).loc Cert.ZxRefIdeal.main_arg0) = m' ((c.tc : Thread Cert.ZxRefIdeal.nD Cert.ZxRefIdeal.τ).loc Cert.ZxRefIdeal.main_arg0)
          ∧ r.2.mem ((c.tc : Thread Cert.ZxRefIdeal.nD Cert.ZxRefIdeal.τ).loc Cert.ZxRefIdeal.main_arg1) = m' ((c.tc : Thread Cert.ZxRefIdeal.nD Cert.ZxRefIdeal.τ).loc Cert.ZxRefIdeal.main_arg1)
          ∧ r.2.mem ((c.tc : Thread Cert.ZxRefIdeal.nD Cert.ZxRefIdeal.τ).loc Cert.ZxRefIdeal.main_arg2) = m' ((c.tc : Thread Cert.ZxRefIdeal.nD Cert.ZxRefIdeal.τ).loc Cert.ZxRefIdeal.main_arg2)
          ∧ r.2.mem ((c.tc : Thread Cert.ZxRefIdeal.nD Cert.ZxRefIdeal.τ).loc Cert.ZxRefIdeal.main_arg3) = m' ((c.tc : Thread Cert.ZxRefIdeal.nD Cert.ZxRefIdeal.τ).loc Cert.ZxRefIdeal.main_arg3)
          ∧ r.2.mem ((c.tc : Thread Cert.ZxRefIdeal.nD Cert.ZxRefIdeal.τ).loc Cert.ZxRefIdeal.main_arg4) = m' ((c.tc : Thread Cert.ZxRefIdeal.nD Cert.ZxRefIdeal.τ).loc Cert.ZxRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_v10) = v1 c
          ∧ r.2.mem ((c.tc : Thread Cert.QkvRefIdeal.nD Cert.QkvRefIdeal.τ).loc Cert.QkvRefIdeal.main_v14) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def Claim : Prop :=
  ∃ (hFfn : Cert.Ffn.Facts) (hFfnIdeal : Cert.FfnIdeal.Facts) (hFfnRefIdeal : Cert.FfnRefIdeal.Facts) (hFfnPe : Cert.FfnPe.Facts) (hFfnPeIdeal : Cert.FfnPeIdeal.Facts) (hFfnPeRefIdeal : Cert.FfnPeRefIdeal.Facts) (hZx : Cert.Zx.Facts) (hZxIdeal : Cert.ZxIdeal.Facts) (hZxRefIdeal : Cert.ZxRefIdeal.Facts) (hQkv : Cert.Qkv.Facts) (hQkvIdeal : Cert.QkvIdeal.Facts) (hQkvRefIdeal : Cert.QkvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_FfnPe (hFfnPe := hFfnPe)
    ∧ quiescent_FfnPeIdeal (hFfnPeIdeal := hFfnPeIdeal)
    ∧ quiescent_FfnPeRefIdeal (hFfnPeRefIdeal := hFfnPeRefIdeal)
    ∧ quiescent_Zx (hZx := hZx)
    ∧ quiescent_ZxIdeal (hZxIdeal := hZxIdeal)
    ∧ quiescent_ZxRefIdeal (hZxRefIdeal := hZxRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_FfnPe_FfnPeIdeal
    ∧ algebraic_FfnPeIdeal_FfnPeRefIdeal (hFfnPeIdeal := hFfnPeIdeal) (hFfnPeRefIdeal := hFfnPeRefIdeal)
    ∧ preserves_Zx_ZxIdeal
    ∧ algebraic_ZxIdeal_ZxRefIdeal (hZxIdeal := hZxIdeal) (hZxRefIdeal := hZxRefIdeal)
    ∧ preserves_Qkv_QkvIdeal
    ∧ algebraic_QkvIdeal_QkvRefIdeal (hQkvIdeal := hQkvIdeal) (hQkvRefIdeal := hQkvRefIdeal)
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S16384x5632 : Shape := ⟨2, ![16384, 5632]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x5632, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== FfnPe.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x256 : Shape := ⟨2, ![16384, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S1024x512 : Shape := ⟨2, ![1024, 512]⟩
abbrev S512x512 : Shape := ⟨2, ![512, 512]⟩
abbrev S1024x256 : Shape := ⟨2, ![1024, 256]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S16384x256, .f32⟩
  | .hbm, ⟨6, _⟩ => ⟨S1024x1024, .bf16⟩
  | .hbm, ⟨7, _⟩ => ⟨S256x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnPeRefIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S16384x5632 : Shape := ⟨2, ![16384, 5632]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S16384x256, .f32⟩
  | .hbm, ⟨6, _⟩ => ⟨S1024x1024, .bf16⟩
  | .hbm, ⟨7, _⟩ => ⟨S256x1024, .bf16⟩
  | .hbm, ⟨8, _⟩ => ⟨S1024x5632, .f32⟩
  | .hbm, ⟨9, _⟩ => ⟨S2816x1024, .f32⟩
  | .hbm, ⟨10, _⟩ => ⟨S1024x1024, .f32⟩
  | .hbm, ⟨11, _⟩ => ⟨S256x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x5632, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S_, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Zx.lean ====
abbrev S16384x1024 : Shape := ⟨2, ![16384, 1024]⟩
abbrev S1024x2048 : Shape := ⟨2, ![1024, 2048]⟩
abbrev S1024x3072 : Shape := ⟨2, ![1024, 3072]⟩
abbrev S4x3072 : Shape := ⟨2, ![4, 3072]⟩
abbrev S1x3072 : Shape := ⟨2, ![1, 3072]⟩
abbrev S16384x2048 : Shape := ⟨2, ![16384, 2048]⟩
abbrev S16384x3072 : Shape := ⟨2, ![16384, 3072]⟩
abbrev S2x8x3072 : Shape := ⟨3, ![2, 8, 3072]⟩
abbrev S256x1024 : Shape := ⟨2, ![256, 1024]⟩
abbrev S256x2048 : Shape := ⟨2, ![256, 2048]⟩
abbrev S256x3072 : Shape := ⟨2, ![256, 3072]⟩
abbrev S1x8x3072 : Shape := ⟨3, ![1, 8, 3072]⟩
abbrev S264x3072 : Shape := ⟨2, ![264, 3072]⟩
abbrev S8x3072 : Shape := ⟨2, ![8, 3072]⟩
abbrev S1024x512 : Shape := ⟨2, ![1024, 512]⟩
abbrev S256x512 : Shape := ⟨2, ![256, 512]⟩
abbrev S1x256 : Shape := ⟨2, ![1, 256]⟩
abbrev S72x256 : Shape := ⟨2, ![72, 256]⟩
abbrev S64x256 : Shape := ⟨2, ![64, 256]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x2048, .bf16⟩
  | .hbm, ⟨2, _⟩ => ⟨S1024x3072, .bf16⟩
  | .hbm, ⟨3, _⟩ => ⟨S4x3072, .f32⟩
  | .hbm, ⟨4, _⟩ => ⟨S1x3072, .f32⟩
  | .hbm, ⟨5, _⟩ => ⟨S16384x2048, .bf16⟩
  | .hbm, ⟨6, _⟩ => ⟨S16384x3072, .bf16⟩
  | .hbm, ⟨7, _⟩ => ⟨S2x8x3072, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1024x3072, .bf16⟩
  | .local _ .vmem, ⟨4, _⟩ => ⟨S4x3072, .f32⟩
  | .local _ .vmem, ⟨5, _⟩ => ⟨S1x3072, .f32⟩
  | .local _ .vmem, ⟨6, _⟩ => ⟨S256x2048, .bf16⟩
  | .local _ .vmem, ⟨7, _⟩ => ⟨S256x2048, .bf16⟩
  | .local _ .vmem, ⟨8, _⟩ => ⟨S256x3072, .bf16⟩
  | .local _ .vmem, ⟨9, _⟩ => ⟨S256x3072, .bf16⟩
  | .local _ .vmem, ⟨10, _⟩ => ⟨S1x8x3072, .f32⟩
  | .local _ .vmem, ⟨11, _⟩ => ⟨S1x8x3072, .f32⟩
  | .local _ .vmem, ⟨12, _⟩ => ⟨S264x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ZxRefIdeal.lean ====
abbrev S16384x1024 : Shape := ⟨2, ![16384, 1024]⟩
abbrev S1024x2048 : Shape := ⟨2, ![1024, 2048]⟩
abbrev S1024x3072 : Shape := ⟨2, ![1024, 3072]⟩
abbrev S4x3072 : Shape := ⟨2, ![4, 3072]⟩
abbrev S1x3072 : Shape := ⟨2, ![1, 3072]⟩
abbrev S16384x2048 : Shape := ⟨2, ![16384, 2048]⟩
abbrev S16384x3072 : Shape := ⟨2, ![16384, 3072]⟩
abbrev S2x8192x3072 : Shape := ⟨3, ![2, 8192, 3072]⟩
abbrev S_ : Shape := ⟨0, ![]⟩
abbrev S2x3x3072 : Shape := ⟨3, ![2, 3, 3072]⟩
abbrev S3072 : Shape := ⟨1, ![3072]⟩
abbrev S2x8195x3072 : Shape := ⟨3, ![2, 8195, 3072]⟩
abbrev S1x1x3072 : Shape := ⟨3, ![1, 1, 3072]⟩
abbrev S2x8x3072 : Shape := ⟨3, ![2, 8, 3072]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .bf16⟩
  | .hbm, ⟨2, _⟩ => ⟨S1024x3072, .bf16⟩
  | .hbm, ⟨3, _⟩ => ⟨S4x3072, .f32⟩
  | .hbm, ⟨4, _⟩ => ⟨S1x3072, .f32⟩
  | .hbm, ⟨5, _⟩ => ⟨S1024x2048, .f32⟩
  | .hbm, ⟨6, _⟩ => ⟨S16384x2048, .f32⟩
  | .hbm, ⟨7, _⟩ => ⟨S1024x3072, .f32⟩
  | .hbm, ⟨8, _⟩ => ⟨S16384x3072, .f32⟩
  | .hbm, ⟨9, _⟩ => ⟨S2x8192x3072, .f32⟩
  | .hbm, ⟨10, _⟩ => ⟨S_, .f32⟩
  | .hbm, ⟨11, _⟩ => ⟨S2x3x3072, .f32⟩
  | .hbm, ⟨12, _⟩ => ⟨S3072, .f32⟩
  | .hbm, ⟨13, _⟩ => ⟨S2x8195x3072, .f32⟩
  | .hbm, ⟨14, _⟩ => ⟨S2x8192x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S2x8192x3072, .f32⟩
  | .hbm, ⟨19, _⟩ => ⟨S2x8192x3072, .f32⟩
  | .hbm, ⟨20, _⟩ => ⟨S_, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x8192x3072, .f32⟩
  | .hbm, ⟨28, _⟩ => ⟨S2x8192x3072, .f32⟩
  | .hbm, ⟨29, _⟩ => ⟨S2x8192x3072, .f32⟩
  | .hbm, ⟨30, _⟩ => ⟨S2x8192x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S2x8192x3072, .f32⟩
  | .hbm, ⟨35, _⟩ => ⟨S2x8192x3072, .f32⟩
  | .hbm, ⟨36, _⟩ => ⟨S2x8192x3072, .f32⟩
  | .hbm, ⟨37, _⟩ => ⟨S2x8192x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S2x8192x3072, .f32⟩
  | .hbm, ⟨42, _⟩ => ⟨S2x8192x3072, .f32⟩
  | .hbm, ⟨43, _⟩ => ⟨S2x8192x3072, .f32⟩
  | .hbm, ⟨44, _⟩ => ⟨S1x1x3072, .f32⟩
  | .hbm, ⟨45, _⟩ => ⟨S2x8192x3072, .f32⟩
  | .hbm, ⟨46, _⟩ => ⟨S2x8192x3072, .f32⟩
  | .hbm, ⟨47, _⟩ => ⟨S2x8192x3072, .f32⟩
  | .hbm, ⟨48, _⟩ => ⟨S2x8192x3072, .f32⟩
  | .hbm, ⟨49, _⟩ => ⟨S_, .f32⟩
  | .hbm, ⟨50, _⟩ => ⟨S2x8192x3072, .f32⟩
  | .hbm, ⟨51, _⟩ => ⟨S2x8192x3072, .f32⟩
  | .hbm, ⟨52, _⟩ => ⟨S_, .f32⟩
  | .hbm, ⟨53, _⟩ => ⟨S2x8192x3072, .f32⟩
  | .hbm, ⟨54, _⟩ => ⟨S2x8192x3072, .f32⟩
  | .hbm, ⟨55, _⟩ => ⟨S2x8192x3072, .f32⟩
  | .hbm, ⟨56, _⟩ => ⟨S16384x2048, .bf16⟩
  | .hbm, ⟨57, _⟩ => ⟨S16384x3072, .f32⟩
  | .hbm, ⟨58, _⟩ => ⟨S16384x3072, .bf16⟩
  | .hbm, ⟨59, _⟩ => ⟨S2x8x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Qkv.lean ====
abbrev S16384x1024 : Shape := ⟨2, ![16384, 1024]⟩
abbrev S1024x4608 : Shape := ⟨2, ![1024, 4608]⟩
abbrev S2x1x8192x1536 : Shape := ⟨4, ![2, 1, 8192, 1536]⟩
abbrev S2x4x2048x1536 : Shape := ⟨4, ![2, 4, 2048, 1536]⟩
abbrev S2x16x512x1536 : Shape := ⟨4, ![2, 16, 512, 1536]⟩
abbrev S512x1024 : Shape := ⟨2, ![512, 1024]⟩
abbrev S1x1x512x1536 : Shape := ⟨4, ![1, 1, 512, 1536]⟩
abbrev S1x4x128x1536 : Shape := ⟨4, ![1, 4, 128, 1536]⟩
abbrev S1x16x32x1536 : Shape := ⟨4, ![1, 16, 32, 1536]⟩
abbrev S36x512x128 : Shape := ⟨3, ![36, 512, 128]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x1x512x128 : Shape := ⟨4, ![1, 1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x4608, .bf16⟩
  | .hbm, ⟨2, _⟩ => ⟨S2x1x8192x1536, .bf16⟩
  | .hbm, ⟨3, _⟩ => ⟨S2x4x2048x1536, .bf16⟩
  | .hbm, ⟨4, _⟩ => ⟨S2x16x512x1536, .bf16⟩
  | .local _ .vmem, ⟨0, _⟩ => ⟨S512x1024, .f32⟩
  | .local _ .vmem, ⟨1, _⟩ => ⟨S512x1024, .f32⟩
  | .local _ .vmem, ⟨2, _⟩ => ⟨S1024x4608, .bf16⟩
  | .local _ .vmem, ⟨3, _⟩ => ⟨S1x1x512x1536, .bf16⟩
  | .local _ .vmem, ⟨4, _⟩ => ⟨S1x1x512x1536, .bf16⟩
  | .local _ .vmem, ⟨5, _⟩ => ⟨S1x4x128x1536, .bf16⟩
  | .local _ .vmem, ⟨6, _⟩ => ⟨S1x4x128x1536, .bf16⟩
  | .local _ .vmem, ⟨7, _⟩ => ⟨S1x16x32x1536, .bf16⟩
  | .local _ .vmem, ⟨8, _⟩ => ⟨S1x16x32x1536, .bf16⟩
  | .local _ .vmem, ⟨9, _⟩ => ⟨S36x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S16384x1024 : Shape := ⟨2, ![16384, 1024]⟩
abbrev S1024x4608 : Shape := ⟨2, ![1024, 4608]⟩
abbrev S16384x4608 : Shape := ⟨2, ![16384, 4608]⟩
abbrev S2x8192x4608 : Shape := ⟨3, ![2, 8192, 4608]⟩
abbrev S2x8192x1536 : Shape := ⟨3, ![2, 8192, 1536]⟩
abbrev S2x8192x1x1536 : Shape := ⟨4, ![2, 8192, 1, 1536]⟩
abbrev S2x1x8192x1536 : Shape := ⟨4, ![2, 1, 8192, 1536]⟩
abbrev S2x2048x4x1536 : Shape := ⟨4, ![2, 2048, 4, 1536]⟩
abbrev S2x4x2048x1536 : Shape := ⟨4, ![2, 4, 2048, 1536]⟩
abbrev S2x512x16x1536 : Shape := ⟨4, ![2, 512, 16, 1536]⟩
abbrev S2x16x512x1536 : Shape := ⟨4, ![2, 16, 512, 1536]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4608, .bf16⟩
  | .hbm, ⟨2, _⟩ => ⟨S1024x4608, .f32⟩
  | .hbm, ⟨3, _⟩ => ⟨S16384x4608, .f32⟩
  | .hbm, ⟨4, _⟩ => ⟨S2x8192x4608, .f32⟩
  | .hbm, ⟨5, _⟩ => ⟨S2x8192x1536, .f32⟩
  | .hbm, ⟨6, _⟩ => ⟨S2x8192x1x1536, .f32⟩
  | .hbm, ⟨7, _⟩ => ⟨S2x1x8192x1536, .f32⟩
  | .hbm, ⟨8, _⟩ => ⟨S2x1x8192x1536, .bf16⟩
  | .hbm, ⟨9, _⟩ => ⟨S2x8192x1536, .f32⟩
  | .hbm, ⟨10, _⟩ => ⟨S2x2048x4x1536, .f32⟩
  | .hbm, ⟨11, _⟩ => ⟨S2x4x2048x1536, .f32⟩
  | .hbm, ⟨12, _⟩ => ⟨S2x4x2048x1536, .bf16⟩
  | .hbm, ⟨13, _⟩ => ⟨S2x8192x1536, .f32⟩
  | .hbm, ⟨14, _⟩ => ⟨S2x512x16x1536, .f32⟩
  | .hbm, ⟨15, _⟩ => ⟨S2x16x512x1536, .f32⟩
  | .hbm, ⟨16, _⟩ => ⟨S2x16x512x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Proof.Ffn.Spec.lean ====
module

public import Idealize.ShloMosaic.Lib.Pipeline.ValueKit
public import Idealize.ShloMosaic.Lib.Pointwise

@[expose] public section
noncomputable section
open Idealize.ShloMosaic

/-! The feed-forward half of a layer, one row at a time, over the extended reals. -/

namespace Ffn

/-- One hidden unit: the gate's product through `x · logistic x`, times the upper product. -/
def gate (x g u : Fin 1024 → EReal) : EReal :=
  (∑ k, x k * g k) * Ideal.logistic (∑ k, x k * g k) * ∑ k, x k * u k

/-- Hidden unit `j` of row `x`: the gate's weights are the columns below 2816, the upper ones those from 2816 on. -/
def hid (x : Fin 1024 → EReal) (W : Fin 1024 → ℕ → EReal) (j : ℕ) : EReal :=
  gate x (fun k => W k j) (fun k => W k (2816 + j))

/-- The down projection of the 2816 hidden units onto one column `v`. -/
def down (x : Fin 1024 → EReal) (W : Fin 1024 → ℕ → EReal) (v : ℕ → EReal) : EReal :=
  ∑ j : Fin 2816, hid x W j.val * v j.val

/-- The sum over 2816 units as five pieces of 512 and one of 256, added in that order. -/
theorem sum_pieces (f : ℕ → EReal) :
    ∑ j : Fin 2816, f j.val
      = ((((∑ j : Fin 512, f j.val) + ∑ j : Fin 512, f (512 + j.val)) + ∑ j : Fin 512, f (1024 + j.val))
          + ∑ j : Fin 512, f (1536 + j.val)) + (∑ j : Fin 512, f (2048 + j.val)) + ∑ j : Fin 256, f (2560 + j.val) := by
  rw [Fin.sum_univ_eq_sum_range f 2816, Fin.sum_univ_eq_sum_range f 512,
    Fin.sum_univ_eq_sum_range (fun j => f (512 + j)) 512, Fin.sum_univ_eq_sum_range (fun j => f (1024 + j)) 512,
    Fin.sum_univ_eq_sum_range (fun j => f (1536 + j)) 512, Fin.sum_univ_eq_sum_range (fun j => f (2048 + j)) 512,
    Fin.sum_univ_eq_sum_range (fun j => f (2560 + j)) 256]
  rw [show (2816 : ℕ) = 2560 + 256 from rfl, Finset.sum_range_add, show (2560 : ℕ) = 2048 + 512 from rfl,
    Finset.sum_range_add, show (2048 : ℕ) = 1536 + 512 from rfl, Finset.sum_range_add,
    show (1536 : ℕ) = 1024 + 512 from rfl, Finset.sum_range_add, show (1024 : ℕ) = 512 + 512 from rfl,
    Finset.sum_range_add]

/-- The residual row before its normalization. -/
def resid (x : Fin 1024 → EReal) (W : Fin 1024 → ℕ → EReal) (V : ℕ → Fin 1024 → EReal) (d : Fin 1024) : EReal :=
  Ideal.ofBits .f32 0x3F9837F0#32 * x d + Ideal.ofBits .f32 0x3F000000#32 * down x W (fun j => V j d)

/-- A row's mean. -/
def mean (r : Fin 1024 → EReal) : EReal := Ideal.div (∑ k, r k) (Ideal.ofBits .f32 0x44800000#32)

/-- The layer norm of row `r` at column `d`, with weight `w` and offset `b` there. -/
def lnorm (r : Fin 1024 → EReal) (w b : EReal) (d : Fin 1024) : EReal :=
  (r d - mean r) * Ideal.rsqrt (mean (fun k => (r k - mean r) * (r k - mean r)) + Ideal.ofBits .f32 0x3727C5AC#32) * w + b

/-- The whole feed-forward row at column `d`. -/
def row (x : Fin 1024 → EReal) (W : Fin 1024 → ℕ → EReal) (V : ℕ → Fin 1024 → EReal) (w b : Fin 1024 → EReal) (d : Fin 1024) : EReal :=
  lnorm (resid x W V) (w d) (b d) d

/-- A row `h` with the per-layer embedding `p` added through its gate. -/
def embed (h : Fin 1024 → EReal) (G : Fin 1024 → Fin 1024 → EReal) (p : Fin 256 → EReal) (P : Fin 256 → Fin 1024 → EReal) (d : Fin 1024) : EReal :=
  h d + Ideal.logistic (∑ k, h k * G k d) * ∑ k, p k * P k d

end Ffn
end
-- ==== Proof.Ffn.Kern.lean ====
module

public import proofs.«01_k».proof.Proof.Gen.FfnIdeal.Value
public import proofs.«01_k».proof.Proof.Gen.FfnPeIdeal.Value
public import proofs.«01_k».proof.Proof.Ffn.Spec
public import Idealize.ShloMosaic.Lib.Pipeline.ValueKit

@[expose] public section
set_option maxRecDepth 16384
noncomputable section
open Idealize.ShloMosaic Idealize.ShloMosaic.TcCoe Idealize.SL.Sem
namespace Cert.FfnIdeal.Pf
open Cert.FfnIdeal Cert.FfnIdeal.Gen

/-- The gate and upper weights by row and column number. -/
def colW (x : Vec Ideal S1024x5632 .bf16) (k : Fin 1024) (j : ℕ) : EReal := x (ix2 k ⟨j % 5632, Nat.mod_lt _ (by decide)⟩)

/-- The down weights by row number and column. -/
def rowV (x : Vec Ideal S2816x1024 .bf16) (j : ℕ) (d : Fin 1024) : EReal := x (ix2 ⟨j % 2816, Nat.mod_lt _ (by decide)⟩ d)

theorem colW_of (x : Vec Ideal S1024x5632 .bf16) (k : Fin 1024) (j : Fin 5632) : x (ix2 k j) = colW x k j.val := by
  unfold colW; congr 2; exact Fin.ext (Nat.mod_eq_of_lt j.isLt).symm

theorem rowV_of (x : Vec Ideal S2816x1024 .bf16) (j : Fin 2816) (d : Fin 1024) : x (ix2 j d) = rowV x j.val d := by
  unfold rowV; congr 2; exact Fin.ext (Nat.mod_eq_of_lt j.isLt).symm

/-- What the body's last part makes of the accumulated sum: the residual and its layer norm. -/
theorem pay1_at (v0 : Vec Ideal S512x1024 .f32) (v55 : FVec Ideal S512x1024 .f32) (v63 : FVec Ideal S512x256 .bf16) (v64 : Vec Ideal S256x1024 .bf16) (v72 v73 : Vec Ideal S1x1024 .f32) (a : Fin 512) (d : Fin 1024) :
    k0_pay1 v0 v55 v63 v64 v72 v73 (ix2 a d)
      = Ffn.lnorm (fun e => Ideal.ofBits .f32 0x3F9837F0#32 * v0 (ix2 a e)
          + Ideal.ofBits .f32 0x3F000000#32 * (v55 (ix2 a e) + ∑ j, v63 (ix2 a j) * v64 (ix2 j e)))
          (v72 (ix2 0 d)) (v73 (ix2 0 d)) d := by
  pointwise [k0_pay1]
  rfl

/-- The six partial down projections of a block are the whole down projection of its rows. -/
theorem acc_at (x0 : Vec Ideal S512x1024 .f32) (x1 : Vec Ideal S1024x5632 .bf16) (x2 : Vec Ideal S2816x1024 .bf16) (a : Fin 512) (e : Fin 1024) :
    (k0_pay5 (k0_pay2 x0)
        (k0_pay3 x0 (View.ld x1 r0_1) (View.ld x1 r0_2) (View.ld x2 r0_3) (View.ld x1 r0_4) (View.ld x1 r0_5) (View.ld x2 r0_6))
        (k0_pay4 x0 (View.ld x1 r0_7) (View.ld x1 r0_8)) (View.ld x2 r0_9) (View.ld x1 r0_10) (View.ld x1 r0_11)
        (View.ld x2 r0_12) (View.ld x1 r0_13) (View.ld x1 r0_14) (View.ld x2 r0_15) (ix2 a e) : EReal)
      + ∑ j : Fin 256, (k0_pay6 (k0_pay2 x0) (View.ld x1 r0_16) (View.ld x1 r0_17) (ix2 a j) : EReal) * View.ld x2 r0_18 (ix2 j e)
      = Ffn.down (fun k => x0 (ix2 a k)) (colW x1) (fun j => rowV x2 j e) := by
  unfold Ffn.down
  rw [Ffn.sum_pieces (fun j => Ffn.hid (fun k => x0 (ix2 a k)) (colW x1) j * rowV x2 j e)]
  pointwise [k0_pay5, k0_pay3, k0_pay4, k0_pay6, k0_pay2]
  simp only [Ffn.hid, Ffn.gate, colW_of, rowV_of, ← Nat.add_assoc, Nat.reduceAdd, Nat.zero_add]

/-- A block of the result, row by row. -/
theorem out_at (x0 : Vec Ideal S512x1024 .f32) (x1 : Vec Ideal S1024x5632 .bf16) (x2 : Vec Ideal S2816x1024 .bf16) (x3 x4 : Vec Ideal S1x1024 .f32) (a : Fin 512) (d : Fin 1024) :
    out0_5 x0 x1 x2 x3 x4 (ix2 a d)
      = Ffn.row (fun k => x0 (ix2 a k)) (colW x1) (rowV x2) (fun e => x3 (ix2 0 e)) (fun e => x4 (ix2 0 e)) d := by
  unfold_out out0_5
  frame_out
  rw [pay1_at]
  unfold Ffn.row Ffn.resid
  congr 1
  funext e
  rw [acc_at x0 x1 x2 a e]

end Cert.FfnIdeal.Pf

namespace Cert.FfnPeIdeal.Pf
open Cert.FfnPeIdeal Cert.FfnPeIdeal.Gen Cert.FfnIdeal.Pf

/-- The second kernel's last part: the first kernel's, then the embedding through its gate. -/
theorem pay6_at (v0 : Vec Ideal S512x1024 .f32) (v55 : FVec Ideal S512x1024 .f32) (v63 : FVec Ideal S512x256 .bf16) (v64 : Vec Ideal S256x1024 .bf16) (v72 v73 : Vec Ideal S1x1024 .f32)
    (v95 : Vec Ideal S1024x1024 .bf16) (v98 : Vec Ideal S512x256 .f32) (v100 : Vec Ideal S256x1024 .bf16) (a : Fin 512) (d : Fin 1024) :
    k0_pay6 v0 v55 v63 v64 v72 v73 v95 v98 v100 (ix2 a d)
      = Ffn.embed (fun e => Cert.FfnIdeal.Gen.k0_pay1 v0 v55 v63 v64 v72 v73 (ix2 a e)) (fun k e => v95 (ix2 k e)) (fun k => v98 (ix2 a k)) (fun k e => v100 (ix2 k e)) d := by
  have h : k0_pay6 v0 v55 v63 v64 v72 v73 v95 v98 v100 =
      addf (Cert.FfnIdeal.Gen.k0_pay1 v0 v55 v63 v64 v72 v73) (mulf (logistic (matmul dot_S512x1024_S1024x1024_S512x1024_1_0_0_1_n_n none (truncf .bf16 (Cert.FfnIdeal.Gen.k0_pay1 v0 v55 v63 v64 v72 v73) bitsLt_bf16_f32) v95 (constant S512x1024 .f32 0x00000000#32)))
        (matmul dot_S512x256_S256x1024_S512x1024_1_0_0_1_n_n none (truncf .bf16 v98 bitsLt_bf16_f32) v100 (constant S512x1024 .f32 0x00000000#32))) := rfl
  rw [h]
  generalize Cert.FfnIdeal.Gen.k0_pay1 v0 v55 v63 v64 v72 v73 = H
  pointwise
  rfl

/-- A block of the second kernel's result, row by row. -/
theorem out_at (x0 : Vec Ideal S512x1024 .f32) (x1 : Vec Ideal S1024x5632 .bf16) (x2 : Vec Ideal S2816x1024 .bf16) (x3 x4 : Vec Ideal S1x1024 .f32)
    (x5 : Vec Ideal S512x256 .f32) (x6 : Vec Ideal S1024x1024 .bf16) (x7 : Vec Ideal S256x1024 .bf16) (a : Fin 512) (d : Fin 1024) :
    out0_8 x0 x1 x2 x3 x4 x5 x6 x7 (ix2 a d)
      = Ffn.embed (Ffn.row (fun k => x0 (ix2 a k)) (colW x1) (rowV x2) (fun e => x3 (ix2 0 e)) (fun e => x4 (ix2 0 e)))
          (fun k e => x6 (ix2 k e)) (fun k => x5 (ix2 a k)) (fun k e => x7 (ix2 k e)) d := by
  frame_out
  rw [pay6_at]
  congr 1
  funext e
  rw [← Cert.FfnIdeal.Pf.out_at x0 x1 x2 x3 x4 a e]
  symm
  frame_out
  rfl

end Cert.FfnPeIdeal.Pf
end
-- ==== Proof.Ffn.Value.lean ====
module

public import proofs.«01_k».proof.Proof.Ffn.Kern
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.FfnIdeal.Pf
open Cert.FfnIdeal Cert.FfnIdeal.Gen
variable (m : (ℓ : Loc nD τ sig) → Buf (Elt Ideal) ℓ)

/-- The block positions of every window. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array the kernel leaves: every row of the feed-forward layer. -/
def G (x0 : Vec Ideal S16384x1024 .f32) (x1 : Vec Ideal S1024x5632 .bf16) (x2 : Vec Ideal S2816x1024 .bf16) (x3 x4 : Vec Ideal S1x1024 .f32) : Vec Ideal S16384x1024 .f32 :=
  fun i => Ffn.row (fun k => x0 (ix2 (i 0) k)) (colW x1) (rowV x2) (fun e => x3 (ix2 0 e)) (fun e => x4 (ix2 0 e)) (i 1)

theorem final (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine ((congrArg _ (show y = ix2 (y 0) (y 1) from by idx_ext)).trans (out_at _ _ _ _ _ (y 0) (y 1))).trans ?_
  have e1 : iblk m c 1 t = m ((c : Thread nD τ).loc main_arg1) := by funext x; blk_ext [iblk, V, idx t]
  have e2 : iblk m c 2 t = m ((c : Thread nD τ).loc main_arg2) := by funext x; blk_ext [iblk, V, idx t]
  have e3 : iblk m c 3 t = m ((c : Thread nD τ).loc main_arg3) := by funext x; blk_ext [iblk, V, idx t]
  have e4 : iblk m c 4 t = m ((c : Thread nD τ).loc main_arg4) := by funext x; blk_ext [iblk, V, idx t]
  rw [e1, e2, e3, e4]
  have e0 : (fun k => iblk m c 0 t (ix2 (y 0) k)) = fun k => m ((c : Thread nD τ).loc main_arg0) (ix2 (((win0_5.blk t).view.emb y) 0) k) := by
    funext k; blk_ext [iblk, V, idx t]
  have e5 : ((win0_5.blk t).view.emb y) 1 = y 1 := Fin.ext (by blk_simp [idx t]; try omega)
  show _ = Ffn.row _ _ _ _ _ (((win0_5.blk t).view.emb y) 1)
  rw [e5, e0]
end Cert.FfnIdeal.Pf

namespace Cert.FfnPeIdeal.Pf
open Cert.FfnPeIdeal Cert.FfnPeIdeal.Gen Cert.FfnIdeal.Pf
variable (m : (ℓ : Loc nD τ sig) → Buf (Elt Ideal) ℓ)

/-- The block positions of every window. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![t.val, 0] :=
  (by decide +kernel : ∀ t : Fin grid0.N, _)

/-- The array the second kernel leaves: the feed-forward rows with the embedding added. -/
def G (x0 : Vec Ideal S16384x1024 .f32) (x1 : Vec Ideal S1024x5632 .bf16) (x2 : Vec Ideal S2816x1024 .bf16) (x3 x4 : Vec Ideal S1x1024 .f32)
    (x5 : Vec Ideal S16384x256 .f32) (x6 : Vec Ideal S1024x1024 .bf16) (x7 : Vec Ideal S256x1024 .bf16) : Vec Ideal S16384x1024 .f32 :=
  fun i => Ffn.embed (Ffn.row (fun k => x0 (ix2 (i 0) k)) (colW x1) (rowV x2) (fun e => x3 (ix2 0 e)) (fun e => x4 (ix2 0 e)))
    (fun k e => x6 (ix2 k e)) (fun k => x5 (ix2 (i 0) k)) (fun k e => x7 (ix2 k e)) (i 1)

theorem final (c : Dev nD) : (dats m 0 c).arrAt 8 cfg0.N
    = G (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  refine ((congrArg _ (show y = ix2 (y 0) (y 1) from by idx_ext)).trans (out_at _ _ _ _ _ _ _ _ (y 0) (y 1))).trans ?_
  have e1 : iblk m c 1 t = m ((c : Thread nD τ).loc main_arg1) := by funext x; blk_ext [iblk, V, idx t]
  have e2 : iblk m c 2 t = m ((c : Thread nD τ).loc main_arg2) := by funext x; blk_ext [iblk, V, idx t]
  have e3 : iblk m c 3 t = m ((c : Thread nD τ).loc main_arg3) := by funext x; blk_ext [iblk, V, idx t]
  have e4 : iblk m c 4 t = m ((c : Thread nD τ).loc main_arg4) := by funext x; blk_ext [iblk, V, idx t]
  have e6 : iblk m c 6 t = m ((c : Thread nD τ).loc main_arg6) := by funext x; blk_ext [iblk, V, idx t]
  have e7 : iblk m c 7 t = m ((c : Thread nD τ).loc main_arg7) := by funext x; blk_ext [iblk, V, idx t]
  rw [e1, e2, e3, e4, e6, e7]
  have e0 : (fun k => iblk m c 0 t (ix2 (y 0) k)) = fun k => m ((c : Thread nD τ).loc main_arg0) (ix2 (((win0_8.blk t).view.emb y) 0) k) := by
    funext k; blk_ext [iblk, V, idx t]
  have e5 : (fun k => iblk m c 5 t (ix2 (y 0) k)) = fun k => m ((c : Thread nD τ).loc main_arg5) (ix2 (((win0_8.blk t).view.emb y) 0) k) := by
    funext k; blk_ext [iblk, V, idx t]
  have e8 : ((win0_8.blk t).view.emb y) 1 = y 1 := Fin.ext (by blk_simp [idx t]; try omega)
  show _ = Ffn.embed _ _ _ _ (((win0_8.blk t).view.emb y) 1)
  rw [e8, e0, e5]

end Cert.FfnPeIdeal.Pf
end
-- ==== Proof.Ffn.Ref.lean ====
module

public import proofs.«01_k».proof.Proof.Gen.FfnRefIdeal.Read
public import proofs.«01_k».proof.Proof.Gen.FfnPeRefIdeal.Read
public import proofs.«01_k».proof.Proof.Ffn.Kern

@[expose] public section
set_option maxRecDepth 16384
noncomputable section
open Idealize.ShloMosaic Idealize.ShloMosaic.TcCoe Idealize.SL.Sem
namespace Cert.FfnRefIdeal.Pf
open Cert.FfnRefIdeal Cert.FfnRefIdeal.Read Cert.FfnIdeal.Pf

/-- The hidden units of the reference. -/
theorem hid_at (x0 : Vec Ideal S16384x1024 .f32) (x1 : Vec Ideal S1024x5632 .bf16) (r : Fin 16384) (j : Fin 2816) :
    val_main_v8 (F := Ideal) x0 x1 (ix2 r j) = Ffn.hid (fun k => x0 (ix2 r k)) (colW x1) j.val := by
  pointwise [val_main_v8, val_main_v7, val_main_v6, val_main_v5, val_main_v4, val_main_v0, val_main_call0_v5, val_main_call0_v4, val_main_call0_v3, val_main_call0_v2, val_main_call0_v1, val_main_call0_v0, val_main_call0_cst, val_main_call0_cst_0]
  simp only [Ffn.hid, Ffn.gate, Ideal.logistic, colW_of]

/-- The reference's residual. -/
theorem resid_at (x0 : Vec Ideal S16384x1024 .f32) (x1 : Vec Ideal S1024x5632 .bf16) (x2 : Vec Ideal S2816x1024 .bf16) (r : Fin 16384) (d : Fin 1024) :
    val_main_v12 (F := Ideal) x0 x1 x2 (ix2 r d) = Ffn.resid (fun k => x0 (ix2 r k)) (colW x1) (rowV x2) d := by
  have h := hid_at x0 x1 r
  unfold val_main_v12 val_main_v11 val_main_v9
  generalize val_main_v8 (F := Ideal) x0 x1 = A at h ⊢
  pointwise [val_main_v10, val_main_v3, val_main_v2, val_main_v1, val_main_cst, val_main_cst_0]
  simp only [h, rowV_of]
  rfl

/-- The reference's result, row by row. -/
theorem ref_at (x0 : Vec Ideal S16384x1024 .f32) (x1 : Vec Ideal S1024x5632 .bf16) (x2 : Vec Ideal S2816x1024 .bf16) (x3 x4 : Vec Ideal S1x1024 .f32) (r : Fin 16384) (d : Fin 1024) :
    val_main_v38 (F := Ideal) x0 x1 x2 x3 x4 (ix2 r d)
      = Ffn.row (fun k => x0 (ix2 r k)) (colW x1) (rowV x2) (fun e => x3 (ix2 0 e)) (fun e => x4 (ix2 0 e)) d := by
  have h := resid_at x0 x1 x2 r
  unfold val_main_v38 val_main_v35 val_main_v32 val_main_v31 val_main_v30 val_main_v29 val_main_v27 val_main_v26 val_main_v25 val_main_v23 val_main_v22 val_main_v21 val_main_v20 val_main_v19 val_main_v18 val_main_v16 val_main_v15
  generalize val_main_v12 (F := Ideal) x0 x1 x2 = A at h ⊢
  pointwise [val_main_v37, val_main_v36, val_main_v34, val_main_v33, val_main_v28, val_main_v24, val_main_v17, val_main_v14, val_main_v13, val_main_cst_1, val_main_cst_2, val_main_cst_3, val_main_cst_4, val_main_cst_5]
  simp only [h]
  rfl

end Cert.FfnRefIdeal.Pf

namespace Cert.FfnPeRefIdeal.Pf
open Cert.FfnPeRefIdeal Cert.FfnPeRefIdeal.Read Cert.FfnIdeal.Pf

/-- The second reference's result, row by row: the first one's, then the embedding through its gate. -/
theorem ref_at (x0 : Vec Ideal S16384x1024 .f32) (x1 : Vec Ideal S1024x5632 .bf16) (x2 : Vec Ideal S2816x1024 .bf16) (x3 x4 : Vec Ideal S1x1024 .f32)
    (x5 : Vec Ideal S16384x256 .f32) (x6 : Vec Ideal S1024x1024 .bf16) (x7 : Vec Ideal S256x1024 .bf16) (r : Fin 16384) (d : Fin 1024) :
    val_main_v50 (F := Ideal) x0 x1 x2 x3 x4 x5 x6 x7 (ix2 r d)
      = Ffn.embed (Ffn.row (fun k => x0 (ix2 r k)) (colW x1) (rowV x2) (fun e => x3 (ix2 0 e)) (fun e => x4 (ix2 0 e)))
          (fun k e => x6 (ix2 k e)) (fun k => x5 (ix2 r k)) (fun k e => x7 (ix2 k e)) d := by
  have h : ∀ e, val_main_v40 (F := Ideal) x0 x1 x2 x3 x4 (ix2 r e) = _ := Cert.FfnRefIdeal.Pf.ref_at x0 x1 x2 x3 x4 r
  unfold val_main_v50 val_main_v49 val_main_v47 val_main_v45 val_main_v43 val_main_v42 val_main_v41
  generalize val_main_v40 (F := Ideal) x0 x1 x2 x3 x4 = A at h ⊢
  pointwise [val_main_v48, val_main_v46, val_main_v44, val_main_v3, val_main_v2, val_main_cst_6, val_main_cst_7]
  simp only [h]
  rfl

end Cert.FfnPeRefIdeal.Pf
end
-- ==== Proof.Zx.Spec.lean ====
module
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Zx

/-- A convolved row entry: the four taps and the bias, gated by its own logistic. -/
def gated (b u0 u1 u2 u3 w0 w1 w2 w3 : EReal) : EReal :=
  (b + u3 * w3 + u2 * w2 + u1 * w1 + u0 * w0) * Ideal.logistic (b + u3 * w3 + u2 * w2 + u1 * w1 + u0 * w0)

theorem gated_of (b w0 w1 w2 w3 b' u0 u1 u2 u3 w0' w1' w2' w3' v0 v1 v2 v3 : EReal) (h3 : v3 = u3) (h2 : v2 = u2) (h1 : v1 = u1) (h0 : v0 = u0)
    (hb : b = b') (g3 : w3 = w3') (g2 : w2 = w2') (g1 : w1 = w1') (g0 : w0 = w0') :
    (b + v3 * w3 + v2 * w2 + v1 * w1 + v0 * w0) * Ideal.logistic (b + v3 * w3 + v2 * w2 + v1 * w1 + v0 * w0)
      = gated b' u0 u1 u2 u3 w0' w1' w2' w3' := by
  subst h3 h2 h1 h0 hb g3 g2 g1 g0; rfl

/-- One projected entry. -/
def row (x : Fin 16384 → Fin 1024 → EReal) (W : Fin 1024 → Fin 3072 → EReal) (n k : ℕ) : EReal :=
  if h : n < 16384 ∧ k < 3072 then ∑ e : Fin 1024, x ⟨n, h.1⟩ e * W e ⟨k, h.2⟩ else 0

theorem row_of (x : Fin 16384 → Fin 1024 → EReal) (W : Fin 1024 → Fin 3072 → EReal) (n : Fin 16384) (k : Fin 3072) (n' k' : ℕ) (hn : n.val = n') (hk : k.val = k') :
    ∑ e : Fin 1024, x n e * W e k = row x W n' k' := by
  subst hn hk
  unfold row
  rw [dif_pos ⟨n.isLt, k.isLt⟩]

/-- The projected rows of one sequence, three rows of zeros above them. -/
def pad (x : Fin 16384 → Fin 1024 → EReal) (W : Fin 1024 → Fin 3072 → EReal) (b r k : ℕ) : EReal :=
  if r < 3 then 0 else row x W (8192 * b + r - 3) k

/-- The causal convolution of the projected rows, over four taps, then gated. -/
def conv (x : Fin 16384 → Fin 1024 → EReal) (W : Fin 1024 → Fin 3072 → EReal) (C : Fin 4 → Fin 3072 → EReal) (B : Fin 3072 → EReal) (n : ℕ) (k : Fin 3072) : EReal :=
  gated (B k) (pad x W (n / 8192) (n % 8192 + 0) k.val) (pad x W (n / 8192) (n % 8192 + 1) k.val) (pad x W (n / 8192) (n % 8192 + 2) k.val) (pad x W (n / 8192) (n % 8192 + 3) k.val)
    (C 0 k) (C 1 k) (C 2 k) (C 3 k)

/-- The rows a grid point works on: eight from the point before, zeros where a sequence starts, then its own. -/
def held (x : Fin 16384 → Fin 1024 → EReal) (W : Fin 1024 → Fin 3072 → EReal) (t r k : ℕ) : EReal :=
  if r < 8 ∧ t % 32 = 0 then 0 else row x W (256 * t + r - 8) k

theorem held_pad (x : Fin 16384 → Fin 1024 → EReal) (W : Fin 1024 → Fin 3072 → EReal) (t y o r n k : ℕ) (hy : y < 256) (ho : o ≤ 3) (hr : r = 5 + o + y) (hn : n = 256 * t + y) :
    held x W t r k = pad x W (n / 8192) (n % 8192 + o) k := by
  subst hr hn
  unfold held pad
  by_cases h : 5 + o + y < 8 ∧ t % 32 = 0
  · rw [if_pos h, if_pos (by omega)]
  · rw [if_neg h, if_neg (by omega)]
    exact congrArg (fun n => row x W n k) (by omega)

theorem held_prev (x : Fin 16384 → Fin 1024 → EReal) (W : Fin 1024 → Fin 3072 → EReal) (t r k : ℕ) (ht : ¬t % 32 = 0) : held x W (t - 1) (256 + r) k = held x W t r k := by
  unfold held
  rw [if_neg (by omega), if_neg (by omega)]
  exact congrArg (fun n => row x W n k) (by omega)

end Cert.Zx
end
-- ==== Proof.Zx.Kern.lean ====
module
public import proofs.«01_k».proof.Proof.Gen.ZxIdeal.Value
public import proofs.«01_k».proof.Proof.Zx.Spec
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.ZxIdeal.Pf
open Cert.ZxIdeal Cert.ZxIdeal.Gen

/-- Rows of the padded block read from stored pieces. -/
theorem cov_of (L : List (View.Piece (Elt Ideal) S264x3072 .f32)) (g : ℕ → ℕ → EReal)
    (hL : View.PiecesOf (fun z => g (z 0).val (z 1).val) L) (y : S264x3072.Idx) (hc : ∃ p ∈ L, y ∈ p.1.set) :
    View.canon L y = g (y 0).val (y 1).val := by
  have := View.canon_append_of_piecesOf (fun z => g (z 0).val (z 1).val) [] L hL y hc
  rwa [List.append_nil] at this

/-- Rows of the padded block read over what it held before. -/
theorem over_of (v : View sig .tc .vmem S264x3072 .f32) (f : v.ty.Contents (Elt Ideal)) (L : List (View.Piece (Elt Ideal) S264x3072 .f32)) (g : ℕ → ℕ → EReal)
    (hL : View.PiecesOf (fun z => g (z 0).val (z 1).val) L) (y : S264x3072.Idx)
    (hc : (∃ p ∈ L, y ∈ p.1.set) ∨ v.read (Elt Ideal) f y = g (y 0).val (y 1).val) :
    v.read (Elt Ideal) (v.writes (Elt Ideal) f L) y = g (y 0).val (y 1).val := by
  by_cases h : ∃ p ∈ L, y ∈ p.1.set
  · rw [View.read_writes_apply_eq_canon v f y L h, cov_of L g hL y h]
  · rw [View.read_writes_apply_of_forall_not_mem v f y L (fun p hp hy => h ⟨p, hp, hy⟩)]
    exact hc.resolve_left h

theorem read_of (v : View sig .tc .vmem S264x3072 .f32) (L : List (View.Piece (Elt Ideal) S264x3072 .f32)) (g : ℕ → ℕ → EReal)
    (hL : View.PiecesOf (fun z => g (z 0).val (z 1).val) L) {o0 o1 s0 s1 : ℕ} (inb : ∀ a, (![o0, o1] : Fin 2 → ℕ) a + (![s0, s1] : Fin 2 → ℕ) a ≤ S264x3072.size a)
    (a : Fin s0) (b : Fin s1) (hc : ∀ y : S264x3072.Idx, (y 0).val = o0 + a.val → (y 1).val = o1 + b.val → ∃ p ∈ L, y ∈ p.1.set)
    (r k : ℕ) (hr : o0 + a.val = r) (hk : o1 + b.val = k) :
    v.readCov L (Rect.unit (s := S264x3072) ![o0, o1] ![s0, s1] inb).toLoadRect (ix2 a b) = g r k := by
  subst hr hk
  have e0 : ((Rect.unit (s := S264x3072) ![o0, o1] ![s0, s1] inb).toLoadRect.idx (ix2 a b) 0).val = o0 + a.val := ValueKit.rect_emb_unit_val (s := S264x3072) ![o0, o1] ![s0, s1] inb (ix2 a b) 0
  have e1 : ((Rect.unit (s := S264x3072) ![o0, o1] ![s0, s1] inb).toLoadRect.idx (ix2 a b) 1).val = o1 + b.val := ValueKit.rect_emb_unit_val (s := S264x3072) ![o0, o1] ![s0, s1] inb (ix2 a b) 1
  rw [View.readCov_eq_canon']
  exact (cov_of L g hL _ (hc _ e0 e1)).trans (by rw [e0, e1])

/-- A stored column chunk holds the projected rows. -/
theorem chunk_of (X : Vec Ideal S256x1024 .f32) (W : Vec Ideal S1024x3072 .bf16) (g : ℕ → ℕ → EReal)
    (hX : ∀ (a : Fin 256) (k : Fin 3072), (∑ e : Fin 1024, X (ix2 a e) * W (ix2 e k)) = g (8 + a.val) k.val)
    (o : ℕ) (inb : ∀ a, (![8, o] : Fin 2 → ℕ) a + S256x512.size a ≤ S264x3072.size a)
    (Z : Vec Ideal S256x512 .f32) (hZ : ∀ (a : Fin 256) (b : Fin 512) (k : Fin 3072), k.val = o + b.val → Z (ix2 a b) = ∑ e : Fin 1024, X (ix2 a e) * W (ix2 e k))
    (x : S256x512.Idx) : Z x = g ((Rect.unit (s := S264x3072) ![8, o] S256x512.size inb).emb x 0).val ((Rect.unit (s := S264x3072) ![8, o] S256x512.size inb).emb x 1).val := by
  have e0 : ((Rect.unit (s := S264x3072) ![8, o] S256x512.size inb).emb x 0).val = 8 + (x 0).val := ValueKit.rect_emb_unit_val (s := S264x3072) ![8, o] S256x512.size inb x 0
  have e1 : ((Rect.unit (s := S264x3072) ![8, o] S256x512.size inb).emb x 1).val = o + (x 1).val := ValueKit.rect_emb_unit_val (s := S264x3072) ![8, o] S256x512.size inb x 1
  rw [e0]
  exact ((congrArg Z (show x = ix2 (x 0) (x 1) from by idx_ext)).trans (hZ (x 0) (x 1) _ e1)).trans (hX (x 0) ((Rect.unit (s := S264x3072) ![8, o] S256x512.size inb).emb x 1))

/-- A stored block of zeros, above the projected rows. -/
theorem zero_of (g : ℕ → ℕ → EReal) (hS : ∀ r k : ℕ, r < 8 → 0 = g r k) (inb : ∀ a, (![0, 0] : Fin 2 → ℕ) a + S8x3072.size a ≤ S264x3072.size a)
    (Z : Vec Ideal S8x3072 .f32) (hZ : ∀ x, Z x = 0) (x : S8x3072.Idx) :
    Z x = g ((Rect.unit (s := S264x3072) ![0, 0] S8x3072.size inb).emb x 0).val ((Rect.unit (s := S264x3072) ![0, 0] S8x3072.size inb).emb x 1).val := by
  have e0 : ((Rect.unit (s := S264x3072) ![0, 0] S8x3072.size inb).emb x 0).val = 0 + (x 0).val := ValueKit.rect_emb_unit_val (s := S264x3072) ![0, 0] S8x3072.size inb x 0
  have h0 : (x 0).val < 8 := (x 0).isLt
  exact (hZ x).trans (hS _ _ (by omega))

theorem pieces_chunk (X : Vec Ideal S256x1024 .f32) (W : Vec Ideal S1024x3072 .bf16) (g : ℕ → ℕ → EReal)
    (hX : ∀ (a : Fin 256) (k : Fin 3072), (∑ e : Fin 1024, X (ix2 a e) * W (ix2 e k)) = g (8 + a.val) k.val)
    (o : ℕ) (inb : ∀ a, (![8, o] : Fin 2 → ℕ) a + (![256, 512] : Fin 2 → ℕ) a ≤ S264x3072.size a)
    (Z : Vec Ideal S256x512 .f32) (L : List (View.Piece (Elt Ideal) S264x3072 .f32))
    (hL : View.PiecesOf (fun z => g (z 0).val (z 1).val) L)
    (hZ : ∀ (a : Fin 256) (b : Fin 512) (k : Fin 3072), k.val = o + b.val → Z (ix2 a b) = ∑ e : Fin 1024, X (ix2 a e) * W (ix2 e k)) :
    View.PiecesOf (fun z => g (z 0).val (z 1).val) ((⟨Rect.unit (s := S264x3072) ![8, o] ![256, 512] inb, Z⟩ : View.Piece (Elt Ideal) S264x3072 .f32) :: L) :=
  ⟨chunk_of X W g hX o inb Z hZ, hL⟩

theorem pieces_zero (g : ℕ → ℕ → EReal) (hS : ∀ r k : ℕ, r < 8 → 0 = g r k) (inb : ∀ a, (![0, 0] : Fin 2 → ℕ) a + (![8, 3072] : Fin 2 → ℕ) a ≤ S264x3072.size a)
    (Z : Vec Ideal S8x3072 .f32) (hZ : ∀ x, Z x = 0) :
    View.PiecesOf (fun z => g (z 0).val (z 1).val) [(⟨Rect.unit (s := S264x3072) ![0, 0] ![8, 3072] inb, Z⟩ : View.Piece (Elt Ideal) S264x3072 .f32)] :=
  ⟨zero_of g hS inb Z hZ, trivial⟩

/-- The projection of a column chunk. -/
theorem chunk_at (X : FVec Ideal S256x1024 .bf16) (W : Vec Ideal S1024x3072 .bf16) (o : ℕ) (inb : ∀ a, (![0, o] : Fin 2 → ℕ) a + (![1024, 512] : Fin 2 → ℕ) a ≤ S1024x3072.size a)
    (a : Fin 256) (b : Fin 512) (k : Fin 3072) (hk : k.val = o + b.val) :
    Ideal.matmul dot_S256x1024_S1024x512_S256x512_1_0_0_1_n_n X
      (View.ld (Val := Elt Ideal) (e' := .bf16) W (Rect.unit (s := S1024x3072) ![0, o] ![1024, 512] inb) : FVec Ideal S1024x512 .bf16) (constant (F := Ideal) S256x512 .f32 0x00000000#32) (ix2 a b)
      = ∑ e : Fin 1024, X (ix2 a e) * W (ix2 e k) := by
  have hW : ∀ e : Fin 1024, (View.ld (Val := Elt Ideal) (e' := .bf16) W (Rect.unit (s := S1024x3072) ![0, o] ![1024, 512] inb) : FVec Ideal S1024x512 .bf16) (ix2 e b) = W (ix2 e k) := by
    intro e
    refine congrArg W (funext fun a => Fin.ext ?_)
    refine (ValueKit.rect_emb_unit_val (s := S1024x3072) ![0, o] ![1024, 512] inb (ix2 e b) a).trans ?_
    match a with
    | ⟨0, _⟩ => exact Nat.zero_add _
    | ⟨1, _⟩ => exact hk.symm
  generalize (View.ld (Val := Elt Ideal) (e' := .bf16) W (Rect.unit (s := S1024x3072) ![0, o] ![1024, 512] inb) : FVec Ideal S1024x512 .bf16) = V at hW ⊢
  pointwise
  exact Finset.sum_congr rfl fun e _ => congrArg (X (ix2 a e) * ·) (hW e)

/-- An index held by the newest stored piece. -/
theorem held_here (o0 o1 s0 s1 : ℕ) (inb : ∀ a, (![o0, o1] : Fin 2 → ℕ) a + (![s0, s1] : Fin 2 → ℕ) a ≤ S264x3072.size a)
    (w : (Rect.unit (s := S264x3072) ![o0, o1] ![s0, s1] inb).shape.Idx → Elt Ideal .f32) (L : List (View.Piece (Elt Ideal) S264x3072 .f32)) (y : S264x3072.Idx)
    (h : (o0 ≤ (y 0).val ∧ (y 0).val < o0 + s0) ∧ o1 ≤ (y 1).val ∧ (y 1).val < o1 + s1) :
    ∃ p ∈ (⟨Rect.unit (s := S264x3072) ![o0, o1] ![s0, s1] inb, w⟩ : View.Piece (Elt Ideal) S264x3072 .f32) :: L, y ∈ p.1.set := by
  refine ⟨_, List.mem_cons_self, ?_⟩
  show y ∈ (Rect.unit (s := S264x3072) ![o0, o1] ![s0, s1] inb).set
  rw [Rect.mem_set_unit]
  intro a
  match a with
  | ⟨0, _⟩ => exact h.1
  | ⟨1, _⟩ => exact h.2

/-- An index held by an earlier stored piece. -/
theorem held_later (q : View.Piece (Elt Ideal) S264x3072 .f32) (L : List (View.Piece (Elt Ideal) S264x3072 .f32)) (y : S264x3072.Idx)
    (h : ∃ p ∈ L, y ∈ p.1.set) : ∃ p ∈ q :: L, y ∈ p.1.set := by
  obtain ⟨p, hp, hy⟩ := h
  exact ⟨p, List.mem_cons_of_mem _ hp, hy⟩

/-- A row read over what the padded block held before. -/
theorem over_at (v : View sig .tc .vmem S264x3072 .f32) (f : v.ty.Contents (Elt Ideal)) (L : List (View.Piece (Elt Ideal) S264x3072 .f32)) (g : ℕ → ℕ → EReal)
    (S : Vec Ideal S264x3072 .f32) (hf : v.read (Elt Ideal) f = S) (hS : ∀ z : S264x3072.Idx, (z 0).val < 8 → S z = g (z 0).val (z 1).val)
    (hL : View.PiecesOf (fun z => g (z 0).val (z 1).val) L) (a : Fin 264) (b : Fin 3072)
    (hc : ∀ z : S264x3072.Idx, (z 0).val = a.val → (z 1).val = b.val → 8 ≤ (z 0).val → ∃ p ∈ L, z ∈ p.1.set)
    (r k : ℕ) (hr : a.val = r) (hk : b.val = k) :
    v.read (Elt Ideal) (v.writes (Elt Ideal) f L) (ix2 a b) = g r k := by
  subst hr hk
  refine over_of v f L g hL (ix2 a b) ?_
  rcases Nat.lt_or_ge a.val 8 with h | h
  · right; rw [hf]; exact hS _ h
  · left; exact hc _ rfl rfl h

/-- The newest stored piece alone, where it holds the first eight rows. -/
theorem head_of (L : List (View.Piece (Elt Ideal) S264x3072 .f32)) (g : ℕ → ℕ → EReal) (inb : ∀ a, (![0, 0] : Fin 2 → ℕ) a + (![8, 3072] : Fin 2 → ℕ) a ≤ S264x3072.size a)
    (Z : Vec Ideal S8x3072 .f32) (hZ : ∀ (a : Fin 8) (b : Fin 3072), Z (ix2 a b) = g (256 + a.val) b.val) (y : S264x3072.Idx) (hy : (y 0).val < 8) :
    View.canon ((⟨Rect.unit (s := S264x3072) ![0, 0] ![8, 3072] inb, Z⟩ : View.Piece (Elt Ideal) S264x3072 .f32) :: L) y = g (256 + (y 0).val) (y 1).val := by
  refine View.canon_append_of_piecesOf (fun z => g (256 + (z 0).val) (z 1).val) L [(⟨Rect.unit (s := S264x3072) ![0, 0] ![8, 3072] inb, Z⟩ : View.Piece (Elt Ideal) S264x3072 .f32)] ⟨fun x => ?_, trivial⟩ y ?_
  · have e0 : ((Rect.unit (s := S264x3072) ![0, 0] ![8, 3072] inb).emb x 0).val = 0 + (x 0).val := ValueKit.rect_emb_unit_val (s := S264x3072) ![0, 0] ![8, 3072] inb x 0
    have e1 : ((Rect.unit (s := S264x3072) ![0, 0] ![8, 3072] inb).emb x 1).val = 0 + (x 1).val := ValueKit.rect_emb_unit_val (s := S264x3072) ![0, 0] ![8, 3072] inb x 1
    show Z x = g (256 + ((Rect.unit (s := S264x3072) ![0, 0] ![8, 3072] inb).emb x 0).val) ((Rect.unit (s := S264x3072) ![0, 0] ![8, 3072] inb).emb x 1).val
    rw [e0, e1, Nat.zero_add, Nat.zero_add]
    exact (congrArg Z (show x = ix2 (x 0) (x 1) from by idx_ext)).trans (hZ (x 0) (x 1))
  · have h1 : (y 1).val < 3072 := (y 1).isLt
    exact held_here 0 0 8 3072 inb Z [] y (by omega)

/-- The first result of a grid point: its rows of the plain projection. -/
theorem proj_at (m : (ℓ : Loc nD τ sig) → Buf (Elt Ideal) ℓ) (c : Dev nD) (t : Fin cfg0.N)
    (X : Vec Ideal S256x1024 .f32) (W : Vec Ideal S1024x2048 .bf16)
    (eX : iblk m c 0 t = X) (eW : iblk m c 1 t = W) (a : Fin 256) (b : Fin 2048) :
    (outsAt0 m c t.val t.isLt).1 (ix2 a b) = ∑ e : Fin 1024, X (ix2 a e) * W (ix2 e b) := by
  by_cases h : t.val % 32 = 0
  · rw [outsAt0_A m c t h]
    frame_out
    rw [eX, eW]
    open_payloads; pointwise
  · rw [outsAt0_B m c t h]
    frame_out
    rw [eX, eW]
    open_payloads; pointwise

/-- A grid point's last eight projected rows: its third result, and what the next point finds. -/
theorem last_at (m : (ℓ : Loc nD τ sig) → Buf (Elt Ideal) ℓ) (c : Dev nD) (t : Fin cfg0.N) (g : ℕ → ℕ → EReal)
    (X : Vec Ideal S256x1024 .f32) (W : Vec Ideal S1024x3072 .bf16)
    (eX : iblk m c 0 t = X) (eW : iblk m c 2 t = W)
    (hX : ∀ (a : Fin 256) (k : Fin 3072), (∑ e : Fin 1024, X (ix2 a e) * W (ix2 e k)) = g (8 + a.val) k.val)
    (hS : t.val % 32 = 0 → ∀ r k : ℕ, r < 8 → 0 = g r k) :
    (∀ (a : Fin 8) (b : Fin 3072), (outsAt0 m c t.val t.isLt).2.2.1 (ix3 0 a b) = g (256 + a.val) b.val)
      ∧ ∀ y : S264x3072.Idx, (y 0).val < 8 → (outsAt0 m c t.val t.isLt).2.2.2 y = g (256 + (y 0).val) (y 1).val := by
  by_cases h : t.val % 32 = 0
  all_goals
    first | rw [outsAt0_A m c t h] | rw [outsAt0_B m c t h]
    refine ⟨fun a b => ?_, fun y hy => ?_⟩
    all_goals frame_out; rw [eX, eW]
    on_goal 2 => refine head_of _ g _ _ (fun a b => ?_) y hy
    all_goals open_payloads; pointwise
    all_goals
      refine read_of _ _ g ?_ _ _ _ (fun z h0 h1 => ?_) _ _ ?_ ?_
      on_goal 2 =>
        have h2 : (z 1).val < 512 ∨ (512 ≤ (z 1).val ∧ (z 1).val < 1024) ∨ (1024 ≤ (z 1).val ∧ (z 1).val < 1536) ∨ (1536 ≤ (z 1).val ∧ (z 1).val < 2048)
          ∨ (2048 ≤ (z 1).val ∧ (z 1).val < 2560) ∨ (2560 ≤ (z 1).val ∧ (z 1).val < 3072) := by have : (z 1).val < 3072 := (z 1).isLt; omega
        rcases h2 with h2 | h2 | h2 | h2 | h2 | h2
        all_goals repeat first | exact held_here _ _ _ _ _ _ _ _ (by omega) | refine held_later _ _ _ ?_
      on_goal 2 => rfl
      on_goal 2 => omega
      repeat refine pieces_chunk X W g hX _ _ _ _ ?_ (fun a b k hk => chunk_at _ W _ _ a b k hk)
      first | exact trivial | exact pieces_zero g (hS h) _ _ (fun x => by pointwise)
end Cert.ZxIdeal.Pf
-- ==== Proof.Zx.MixedA.lean ====
module
public import proofs.«01_k».proof.Proof.Zx.Kern
public import Idealize.ShloMosaic.Lib.Pointwise
@[expose] public section
set_option maxRecDepth 16384
noncomputable section
open Idealize.ShloMosaic Idealize.ShloMosaic.TcCoe Idealize.SL.Sem
namespace Cert.ZxIdeal.Pf
open Cert.ZxIdeal Cert.ZxIdeal.Gen

set_option maxHeartbeats 2000000 in
/-- The second result where a sequence starts: the rows before it are zeros. -/
theorem mixed_A (m : (ℓ : Loc nD τ sig) → Buf (Elt Ideal) ℓ) (c : Dev nD) (t : Fin cfg0.N) (h : t.val % 32 = 0) (g : ℕ → ℕ → EReal)
    (X : Vec Ideal S256x1024 .f32) (W : Vec Ideal S1024x3072 .bf16) (C : Vec Ideal S4x3072 .f32) (B : Vec Ideal S1x3072 .f32)
    (eX : iblk m c 0 t = X) (eW : iblk m c 2 t = W) (eC : iblk m c 3 t = C) (eB : iblk m c 4 t = B)
    (hX : ∀ (a : Fin 256) (k : Fin 3072), (∑ e : Fin 1024, X (ix2 a e) * W (ix2 e k)) = g (8 + a.val) k.val)
    (hS : ∀ r k : ℕ, r < 8 → 0 = g r k) (y : S256x3072.Idx) :
    (outsAt0 m c t.val t.isLt).2.1 y = Zx.gated (B (ix2 0 (y 1))) (g (5 + (y 0).val) (y 1).val) (g (6 + (y 0).val) (y 1).val) (g (7 + (y 0).val) (y 1).val) (g (8 + (y 0).val) (y 1).val)
      (C (ix2 0 (y 1))) (C (ix2 1 (y 1))) (C (ix2 2 (y 1))) (C (ix2 3 (y 1))) := by
  rw [outsAt0_A m c t h]
  frame_out
  rw [eX, eW, eC, eB]
  clear eX eW eC eB h
  canon_tiles x hx
  all_goals
    open_payloads; pointwise
    refine Zx.gated_of _ _ _ _ _ _ _ _ _ _ _ _ _ _ _ _ _ _ ?_ ?_ ?_ ?_ ?_ ?_ ?_ ?_ ?_
    iterate 5 (on_goal 5 => first | exact congrArg (fun k => B (ix2 0 k)) (Fin.ext hx1.symm) | exact congrArg (fun k => C (ix2 _ k)) (Fin.ext hx1.symm))
    all_goals
      refine read_of _ _ g ?_ _ _ _ (fun z h0 h1 => ?_) _ _ ?_ ?_
      on_goal 2 =>
        simp only at h0 h1
        rcases Nat.lt_or_ge (z 0).val 8 with h8 | h8
        all_goals repeat first | exact held_here _ _ _ _ _ _ _ _ (by omega) | refine held_later _ _ _ ?_
      on_goal 2 => simp only; omega
      on_goal 2 => omega
      repeat refine pieces_chunk X W g hX _ _ _ _ ?_ (fun a b k hk => chunk_at _ W _ _ a b k hk)
      exact pieces_zero g hS _ _ (fun x => by pointwise)
end Cert.ZxIdeal.Pf
-- ==== Proof.Zx.MixedB.lean ====
module
public import proofs.«01_k».proof.Proof.Zx.Kern
public import Idealize.ShloMosaic.Lib.Pointwise
@[expose] public section
set_option maxRecDepth 16384
noncomputable section
open Idealize.ShloMosaic Idealize.ShloMosaic.TcCoe Idealize.SL.Sem
namespace Cert.ZxIdeal.Pf
open Cert.ZxIdeal Cert.ZxIdeal.Gen

set_option maxHeartbeats 2000000 in
/-- The second result elsewhere: the rows before it are what the point before held. -/
theorem mixed_B (m : (ℓ : Loc nD τ sig) → Buf (Elt Ideal) ℓ) (c : Dev nD) (t : Fin cfg0.N) (h : ¬t.val % 32 = 0) (g : ℕ → ℕ → EReal)
    (X : Vec Ideal S256x1024 .f32) (W : Vec Ideal S1024x3072 .bf16) (C : Vec Ideal S4x3072 .f32) (B : Vec Ideal S1x3072 .f32) (S : Vec Ideal S264x3072 .f32)
    (eX : iblk m c 0 t = X) (eW : iblk m c 2 t = W) (eC : iblk m c 3 t = C) (eB : iblk m c 4 t = B)
    (eS : (outsAt0 m c (t.val - 1) (Nat.lt_of_le_of_lt (Nat.sub_le _ _) t.isLt)).2.2.2 = S)
    (hX : ∀ (a : Fin 256) (k : Fin 3072), (∑ e : Fin 1024, X (ix2 a e) * W (ix2 e k)) = g (8 + a.val) k.val)
    (hS : ∀ z : S264x3072.Idx, (z 0).val < 8 → S z = g (z 0).val (z 1).val) (y : S256x3072.Idx) :
    (outsAt0 m c t.val t.isLt).2.1 y = Zx.gated (B (ix2 0 (y 1))) (g (5 + (y 0).val) (y 1).val) (g (6 + (y 0).val) (y 1).val) (g (7 + (y 0).val) (y 1).val) (g (8 + (y 0).val) (y 1).val)
      (C (ix2 0 (y 1))) (C (ix2 1 (y 1))) (C (ix2 2 (y 1))) (C (ix2 3 (y 1))) := by
  rw [outsAt0_B m c t h]
  frame_out
  rw [eX, eW, eC, eB, eS]
  clear eX eW eC eB eS h
  canon_tiles x hx
  iterate 12
    iterate 3
     on_goal 1 =>
       open_payloads; pointwise
       refine Zx.gated_of _ _ _ _ _ _ _ _ _ _ _ _ _ _ _ _ _ _ ?_ ?_ ?_ ?_ ?_ ?_ ?_ ?_ ?_
       iterate 5 (on_goal 5 => first | exact congrArg (fun k => B (ix2 0 k)) (Fin.ext hx1.symm) | exact congrArg (fun k => C (ix2 _ k)) (Fin.ext hx1.symm))
       all_goals
         refine read_of _ _ g ?_ _ _ _ (fun z h0 h1 => ?_) _ _ ?_ ?_
         on_goal 2 => have h8 : 8 ≤ (z 0).val := by simp only at h0; omega
         on_goal 2 =>
           simp only at h0 h1
           repeat first | exact held_here _ _ _ _ _ _ _ _ (by omega) | refine held_later _ _ _ ?_
         on_goal 2 => first | omega | (simp only; omega)
         on_goal 2 => first | omega | (simp only; omega)
         repeat refine pieces_chunk X W g hX _ _ _ _ ?_ (fun a b k hk => chunk_at _ W _ _ a b k hk)
         exact trivial
    on_goal 1 =>
      open_payloads; pointwise
      refine Zx.gated_of _ _ _ _ _ _ _ _ _ _ _ _ _ _ _ _ _ _ ?_ ?_ ?_ ?_ ?_ ?_ ?_ ?_ ?_
      iterate 5 (on_goal 5 => first | exact congrArg (fun k => B (ix2 0 k)) (Fin.ext hx1.symm) | exact congrArg (fun k => C (ix2 _ k)) (Fin.ext hx1.symm))
      all_goals
        refine over_at _ _ _ g S ?_ hS ?_ _ _ (fun z h0 h1 h8 => ?_) _ _ ?_ ?_
        on_goal 1 => exact Memref.IsWhole.read_unread (Memref.isWhole_whole cc0_scratch0) S
        on_goal 2 =>
          simp only at h0 h1
          repeat first | exact held_here _ _ _ _ _ _ _ _ (by omega) | refine held_later _ _ _ ?_
        on_goal 2 => first | omega | (simp only; omega)
        on_goal 2 => first | omega | (simp only; omega)
        repeat refine pieces_chunk X W g hX _ _ _ _ ?_ (fun a b k hk => chunk_at _ W _ _ a b k hk)
        exact trivial
end Cert.ZxIdeal.Pf
-- ==== Proof.Zx.Value.lean ====
module
public import proofs.«01_k».proof.Proof.Zx.MixedA
public import proofs.«01_k».proof.Proof.Zx.MixedB
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ZxIdeal.Pf
open Cert.ZxIdeal Cert.ZxIdeal.Gen
variable (m : (ℓ : Loc nD τ sig) → Buf (Elt Ideal) ℓ)

/-- The block positions of every window. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val / 32, 0, 0] :=
  (by decide +kernel : ∀ t : Fin grid0.N, _)

theorem lt_64 (t : Fin cfg0.N) : t.val < 64 := t.isLt

theorem arg1_at (c : Dev nD) (t : Fin cfg0.N) : iblk m c 1 t = m ((c : Thread nD τ).loc main_arg1) := by funext x; blk_ext [iblk, V, idx t]
theorem arg2_at (c : Dev nD) (t : Fin cfg0.N) : iblk m c 2 t = m ((c : Thread nD τ).loc main_arg2) := by funext x; blk_ext [iblk, V, idx t]
theorem arg3_at (c : Dev nD) (t : Fin cfg0.N) : iblk m c 3 t = m ((c : Thread nD τ).loc main_arg3) := by funext x; blk_ext [iblk, V, idx t]
theorem arg4_at (c : Dev nD) (t : Fin cfg0.N) : iblk m c 4 t = m ((c : Thread nD τ).loc main_arg4) := by funext x; blk_ext [iblk, V, idx t]

theorem arg0_at (c : Dev nD) (t : Fin cfg0.N) (a : Fin 256) (e : Fin 1024) (n : Fin 16384) (hn : n.val = 256 * t.val + a.val) :
    iblk m c 0 t (ix2 a e) = m ((c : Thread nD τ).loc main_arg0) (ix2 n e) := by
  refine Eq.trans ?_ (congrArg (fun n => m ((c : Thread nD τ).loc main_arg0) (ix2 n e)) (Fin.ext hn : n = ⟨256 * t.val + a.val, by have := lt_64 t; omega⟩).symm)
  blk_ext [iblk, V, idx t]

/-- The rows as functions of their positions. -/
def xs (x : Vec Ideal S16384x1024 .f32) (n : Fin 16384) (e : Fin 1024) : EReal := x (ix2 n e)
def ws (w : Vec Ideal S1024x3072 .bf16) (e : Fin 1024) (k : Fin 3072) : EReal := w (ix2 e k)

/-- The rows a grid point works on. -/
def g (c : Dev nD) (t : ℕ) : ℕ → ℕ → EReal :=
  Zx.held (xs (m ((c : Thread nD τ).loc main_arg0))) (ws (m ((c : Thread nD τ).loc main_arg2))) t

theorem own (c : Dev nD) (t : Fin cfg0.N) (X : Vec Ideal S256x1024 .f32) (eX : iblk m c 0 t = X) (W : Vec Ideal S1024x3072 .bf16) (eW : m ((c : Thread nD τ).loc main_arg2) = W) (a : Fin 256) (k : Fin 3072) :
    (∑ e : Fin 1024, X (ix2 a e) * W (ix2 e k)) = g m c t.val (8 + a.val) k.val := by
  subst eX eW
  have ht := lt_64 t
  unfold g Zx.held
  rw [if_neg (by omega)]
  refine Eq.trans (Finset.sum_congr rfl fun e _ => ?_) (Zx.row_of (xs (m ((c : Thread nD τ).loc main_arg0))) (ws (m ((c : Thread nD τ).loc main_arg2)))
    ⟨256 * t.val + a.val, by omega⟩ k _ _ (by show 256 * t.val + a.val = _; omega) rfl)
  exact congrArg (fun u : EReal => u * ws (m ((c : Thread nD τ).loc main_arg2)) e k) (arg0_at m c t a e ⟨256 * t.val + a.val, by omega⟩ rfl)

theorem start (c : Dev nD) (t : ℕ) (h : t % 32 = 0) (r k : ℕ) (hr : r < 8) : 0 = g m c t r k := by
  unfold g Zx.held
  rw [if_pos ⟨hr, h⟩]

theorem last_g (c : Dev nD) (t : Fin cfg0.N) :
    (∀ (a : Fin 8) (b : Fin 3072), (outsAt0 m c t.val t.isLt).2.2.1 (ix3 0 a b) = g m c t.val (256 + a.val) b.val)
      ∧ ∀ y : S264x3072.Idx, (y 0).val < 8 → (outsAt0 m c t.val t.isLt).2.2.2 y = g m c t.val (256 + (y 0).val) (y 1).val := last_at m c t (g m c t.val) (iblk m c 0 t) (m ((c : Thread nD τ).loc main_arg2)) rfl (arg2_at m c t) (own m c t _ rfl _ rfl)
  (fun h r k hr => start m c t.val h r k hr)

theorem mixed_at (c : Dev nD) (t : Fin cfg0.N) (y : S256x3072.Idx) (n : ℕ) (hn : n = 256 * t.val + (y 0).val) :
    (outsAt0 m c t.val t.isLt).2.1 y = Zx.conv (xs (m ((c : Thread nD τ).loc main_arg0))) (ws (m ((c : Thread nD τ).loc main_arg2)))
      (fun j k => m ((c : Thread nD τ).loc main_arg3) (ix2 j k)) (fun k => m ((c : Thread nD τ).loc main_arg4) (ix2 0 k)) n (y 1) := by
  have hy : (y 0).val < 256 := (y 0).isLt
  have hp : ∀ o r k : ℕ, o ≤ 3 → r = 5 + o + (y 0).val → g m c t.val r k = Zx.pad (xs (m ((c : Thread nD τ).loc main_arg0))) (ws (m ((c : Thread nD τ).loc main_arg2))) (n / 8192) (n % 8192 + o) k :=
    fun o r k ho hr => Zx.held_pad _ _ t.val (y 0).val o r n k hy ho hr hn
  unfold Zx.conv
  rw [← hp 0 (5 + (y 0).val) _ (by omega) (by omega), ← hp 1 (6 + (y 0).val) _ (by omega) (by omega), ← hp 2 (7 + (y 0).val) _ (by omega) (by omega), ← hp 3 (8 + (y 0).val) _ (by omega) (by omega)]
  by_cases h : t.val % 32 = 0
  · exact mixed_A m c t h (g m c t.val) (iblk m c 0 t) (m ((c : Thread nD τ).loc main_arg2)) (m ((c : Thread nD τ).loc main_arg3)) (m ((c : Thread nD τ).loc main_arg4))
      rfl (arg2_at m c t) (arg3_at m c t) (arg4_at m c t) (own m c t _ rfl _ rfl) (fun r k hr => start m c t.val h r k hr) y
  · refine mixed_B m c t h (g m c t.val) (iblk m c 0 t) (m ((c : Thread nD τ).loc main_arg2)) (m ((c : Thread nD τ).loc main_arg3)) (m ((c : Thread nD τ).loc main_arg4)) _
      rfl (arg2_at m c t) (arg3_at m c t) (arg4_at m c t) rfl (own m c t _ rfl _ rfl) (fun z hz => ?_) y
    exact ((last_g m c ⟨t.val - 1, Nat.lt_of_le_of_lt (Nat.sub_le _ _) t.isLt⟩).2 z hz).trans (Zx.held_prev _ _ t.val (z 0).val (z 1).val h)

/-- The three arrays the kernel leaves: the plain projection, the gated convolution, and each sequence's last rows. -/
def Gz (x0 : Vec Ideal S16384x1024 .f32) (x1 : Vec Ideal S1024x2048 .bf16) : Vec Ideal S16384x2048 .bf16 := fun i => ∑ e : Fin 1024, x0 (ix2 (i 0) e) * x1 (ix2 e (i 1))
def Gc (x0 : Vec Ideal S16384x1024 .f32) (x2 : Vec Ideal S1024x3072 .bf16) (x3 : Vec Ideal S4x3072 .f32) (x4 : Vec Ideal S1x3072 .f32) : Vec Ideal S16384x3072 .bf16 :=
  fun i => Zx.conv (xs x0) (ws x2) (fun j k => x3 (ix2 j k)) (fun k => x4 (ix2 0 k)) (i 0).val (i 1)
def Gt (x0 : Vec Ideal S16384x1024 .f32) (x2 : Vec Ideal S1024x3072 .bf16) : Vec Ideal S2x8x3072 .f32 := fun i => Zx.row (xs x0) (ws x2) (8192 * (i 0).val + 8184 + (i 1).val) (i 2).val

theorem final_z (c : Dev nD) : (dats m 0 c).arrAt 5 cfg0.N = Gz (m ((c : Thread nD τ).loc main_arg0)) (m ((c : Thread nD τ).loc main_arg1)) := by
  refine (dats m 0 c).arrAt_eq_of_covers 5 _ (by decide +kernel) fun t _ y => ?_
  blk_simp
  rw [after0_5]
  refine ((congrArg _ (show y = ix2 (y 0) (y 1) from by idx_ext)).trans (proj_at m c t (iblk m c 0 t) (m ((c : Thread nD τ).loc main_arg1)) rfl (arg1_at m c t) (y 0) (y 1))).trans ?_
  have e1 : ((win0_5.blk t).view.emb y) 1 = y 1 := Fin.ext (by blk_simp [idx t]; try omega)
  show _ = Gz _ _ ((win0_5.blk t).view.emb y)
  unfold Gz
  rw [e1]
  exact Finset.sum_congr rfl fun e _ => congrArg₂ (fun u w : EReal => u * w) (arg0_at m c t (y 0) e (((win0_5.blk t).view.emb y) 0) (by blk_simp [idx t]; try omega)) rfl

theorem final_c (c : Dev nD) : (dats m 0 c).arrAt 6 cfg0.N
    = Gc (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  refine (mixed_at m c t y _ (show (((win0_6.blk t).view.emb y) 0).val = 256 * t.val + (y 0).val by blk_simp [idx t]; try omega)).trans ?_
  have e1 : ((win0_6.blk t).view.emb y) 1 = y 1 := Fin.ext (by blk_simp [idx t]; try omega)
  show _ = Zx.conv _ _ _ _ _ (((win0_6.blk t).view.emb y) 1)
  rw [e1]

theorem flushes : ∀ t : Fin cfg0.N, (cfg0.win 7).flush t = true → t.val % 32 = 31 := (by decide +kernel : ∀ t : Fin grid0.N, _)

theorem final_t (c : Dev nD) : (dats m 0 c).arrAt 7 cfg0.N = Gt (m ((c : Thread nD τ).loc main_arg0)) (m ((c : Thread nD τ).loc main_arg2)) := by
  refine (dats m 0 c).arrAt_eq_of_covers 7 _ (by decide +kernel) fun t ht y => ?_
  have h31 := flushes t ht
  blk_simp
  rw [after0_7]
  refine ((congrArg _ (show y = ix3 0 (y 1) (y 2) from by idx_ext)).trans ((last_g m c t).1 (y 1) (y 2))).trans ?_
  have e0 : (((win0_7.blk t).view.emb y) 0).val = t.val / 32 := by blk_simp [idx t]; try omega
  have e1 : (((win0_7.blk t).view.emb y) 1).val = (y 1).val := by blk_simp [idx t]; try omega
  have e2 : (((win0_7.blk t).view.emb y) 2).val = (y 2).val := by blk_simp [idx t]; try omega
  show _ = Zx.row _ _ (8192 * (((win0_7.blk t).view.emb y) 0).val + 8184 + (((win0_7.blk t).view.emb y) 1).val) (((win0_7.blk t).view.emb y) 2).val
  rw [e0, e1, e2]
  unfold g Zx.held
  rw [if_neg (by omega)]
  exact congrArg (fun n => Zx.row _ _ n _) (by omega)

end Cert.ZxIdeal.Pf
end
-- ==== Proof.Zx.Ref.lean ====
module
public import proofs.«01_k».proof.Proof.Gen.ZxRefIdeal.Read
public import proofs.«01_k».proof.Proof.Zx.Spec
@[expose] public section
set_option maxRecDepth 16384
noncomputable section
open Idealize.ShloMosaic Idealize.ShloMosaic.TcCoe Idealize.SL.Sem
namespace Cert.ZxRefIdeal.Pf
open Cert.ZxRefIdeal Cert.ZxRefIdeal.Read

theorem z_at (x0 : Vec Ideal S16384x1024 .f32) (x1 : Vec Ideal S1024x2048 .bf16) (n : Fin 16384) (k : Fin 2048) :
    val_main_v41 (F := Ideal) x0 x1 (ix2 n k) = ∑ e : Fin 1024, x0 (ix2 n e) * x1 (ix2 e k) := by
  pointwise [val_main_v41, val_main_v1, val_main_v0]

/-- The projected rows of the reference. -/
theorem row_at (x0 : Vec Ideal S16384x1024 .f32) (x2 : Vec Ideal S1024x3072 .bf16) (n : Fin 16384) (k : Fin 3072) :
    val_main_v3 (F := Ideal) x0 x2 (ix2 n k) = Zx.row (fun n e => x0 (ix2 n e)) (fun e k => x2 (ix2 e k)) n.val k.val := by
  refine Eq.trans ?_ (Zx.row_of (fun n e => x0 (ix2 n e)) (fun e k => x2 (ix2 e k)) n k _ _ rfl rfl)
  pointwise [val_main_v3, val_main_v2]

/-- The same rows, sequence by sequence. -/
theorem seq_at (x0 : Vec Ideal S16384x1024 .f32) (x2 : Vec Ideal S1024x3072 .bf16) (b : Fin 2) (r : Fin 8192) (k : Fin 3072) :
    val_main_v4 (F := Ideal) x0 x2 (ix3 b r k) = Zx.row (fun n e => x0 (ix2 n e)) (fun e k => x2 (ix2 e k)) (8192 * b.val + r.val) k.val := by
  have h := row_at x0 x2
  unfold val_main_v4
  generalize val_main_v3 (F := Ideal) x0 x2 = A at h ⊢
  pointwise
  exact (h _ k).trans (congrArg (fun n => Zx.row _ _ n _) (by show b.val * 8192 + r.val = _; omega))

/-- The padded rows. -/
theorem pad_at (x0 : Vec Ideal S16384x1024 .f32) (x2 : Vec Ideal S1024x3072 .bf16) (b : Fin 2) (r : Fin 8195) (k : Fin 3072) :
    val_main_v7 (F := Ideal) x0 x2 (ix3 b r k) = Zx.pad (fun n e => x0 (ix2 n e)) (fun e k => x2 (ix2 e k)) b.val r.val k.val := by
  unfold val_main_v7 Zx.pad
  by_cases hr : r.val < 3
  · rw [if_pos hr]
    refine (concatenate_pair_apply_left (s₁ := S2x3x3072) (s₂ := S2x8192x3072) _ _ _ _ (ix3 b r k) rfl (ix3 b ⟨r.val, hr⟩ k) (fun a => ?_)).trans ?_
    · match a with
      | ⟨0, _⟩ => rfl
      | ⟨1, _⟩ => rfl
      | ⟨2, _⟩ => rfl
    · pointwise [val_main_v5, val_main_cst]
  · rw [if_neg hr]
    have hl : r.val - 3 < 8192 := by have := r.isLt; omega
    refine (concatenate_pair_apply_right (s₁ := S2x3x3072) (s₂ := S2x8192x3072) _ _ _ _ (ix3 b r k) rfl rfl (ix3 b ⟨r.val - 3, hl⟩ k) (fun a ha => ?_) ?_).trans ?_
    · match a with
      | ⟨0, _⟩ => rfl
      | ⟨1, _⟩ => exact absurd rfl ha
      | ⟨2, _⟩ => rfl
    · show r.val - 3 + 3 = r.val
      omega
    · refine (seq_at x0 x2 b ⟨r.val - 3, hl⟩ k).trans ?_
      exact congrArg (fun n => Zx.row _ _ n _) (by show 8192 * b.val + (r.val - 3) = _; omega)

/-- The gated convolution of the reference. -/
theorem conv_at (x0 : Vec Ideal S16384x1024 .f32) (x2 : Vec Ideal S1024x3072 .bf16) (x3 : Vec Ideal S4x3072 .f32) (x4 : Vec Ideal S1x3072 .f32) (n : Fin 16384) (k : Fin 3072) :
    val_main_v43 (F := Ideal) x0 x2 x3 x4 (ix2 n k)
      = Zx.conv (fun n e => x0 (ix2 n e)) (fun e k => x2 (ix2 e k)) (fun j k => x3 (ix2 j k)) (fun k => x4 (ix2 0 k)) n.val k := by
  have h := pad_at x0 x2
  unfold val_main_v43 val_main_v42 val_main_v40 val_main_call0_v5 val_main_call0_v3 val_main_call0_v1 val_main_call0_v0 val_main_v39 val_main_v36 val_main_v29 val_main_v22 val_main_v15 val_main_v35 val_main_v28 val_main_v21 val_main_v13 val_main_v30 val_main_v23 val_main_v16 val_main_v8
  generalize val_main_v7 (F := Ideal) x0 x2 = A at h ⊢
  pointwise [val_main_v38, val_main_v37, val_main_v6, val_main_v34, val_main_v33, val_main_v32, val_main_v31, val_main_v27, val_main_v26, val_main_v25, val_main_v24,
    val_main_v20, val_main_v19, val_main_v18, val_main_v17, val_main_v12, val_main_v11, val_main_v10, val_main_v9, val_main_v14, val_main_cst_0,
    val_main_call0_v4, val_main_call0_cst_0, val_main_call0_v2, val_main_call0_cst]
  simp only [h, Nat.add_comm _ (n.val % 8192)]
  unfold Zx.conv Zx.gated Ideal.logistic
  rw [show ∀ b p0 p1 p2 p3 : EReal, p0 + p1 + p2 + p3 + b = b + p3 + p2 + p1 + p0 from fun b p0 p1 p2 p3 => by ac_rfl]
  rfl

theorem tail_at (x0 : Vec Ideal S16384x1024 .f32) (x2 : Vec Ideal S1024x3072 .bf16) (b : Fin 2) (r : Fin 8) (k : Fin 3072) :
    val_main_v44 (F := Ideal) x0 x2 (ix3 b r k) = Zx.row (fun n e => x0 (ix2 n e)) (fun e k => x2 (ix2 e k)) (8192 * b.val + 8184 + r.val) k.val := by
  have h := seq_at x0 x2
  unfold val_main_v44
  generalize val_main_v4 (F := Ideal) x0 x2 = A at h ⊢
  pointwise
  exact (h b _ k).trans (congrArg (fun n => Zx.row _ _ n _) (by show 8192 * b.val + (8184 + r.val) = _; omega))

end Cert.ZxRefIdeal.Pf
end
-- ==== Proof.Qkv.Kern.lean ====
module
public import proofs.«01_k».proof.Proof.Gen.QkvIdeal.Value
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.QkvIdeal.Pf
open Cert.QkvIdeal Cert.QkvIdeal.Gen

/-- The projection of a column chunk. -/
theorem prod_at (X : FVec Ideal S512x1024 .bf16) (W : Vec Ideal S1024x4608 .bf16) (p : ℕ → ℕ → EReal)
    (hX : ∀ (a : Fin 512) (k : Fin 4608), (∑ e : Fin 1024, X (ix2 a e) * W (ix2 e k)) = p a.val k.val)
    (o : ℕ) (inb : ∀ a, (![0, o] : Fin 2 → ℕ) a + (![1024, 256] : Fin 2 → ℕ) a ≤ S1024x4608.size a) (a : Fin 512) (b : Fin 256) :
    matmul (φ₂ := .bf16) dot_S512x1024_S1024x256_S512x256_1_0_0_1_n_n none X
      (View.ld (Val := Elt Ideal) (e' := .bf16) W (Rect.unit (s := S1024x4608) ![0, o] ![1024, 256] inb) : FVec Ideal S1024x256 .bf16) (constant (F := Ideal) S512x256 .f32 0x00000000#32) (ix2 a b)
      = p a.val (o + b.val) := by
  have ho : o + 256 ≤ 4608 := inb 1
  rw [← hX a ⟨o + b.val, by omega⟩]
  have hW : ∀ e : Fin 1024, (View.ld (Val := Elt Ideal) (e' := .bf16) W (Rect.unit (s := S1024x4608) ![0, o] ![1024, 256] inb) : FVec Ideal S1024x256 .bf16) (ix2 e b) = W (ix2 e ⟨o + b.val, by omega⟩) := by
    intro e
    refine congrArg W (funext fun a => Fin.ext ?_)
    refine (ValueKit.rect_emb_unit_val (s := S1024x4608) ![0, o] ![1024, 256] inb (ix2 e b) a).trans ?_
    match a with
    | ⟨0, _⟩ => exact Nat.zero_add _
    | ⟨1, _⟩ => rfl
  generalize (View.ld (Val := Elt Ideal) (e' := .bf16) W (Rect.unit (s := S1024x4608) ![0, o] ![1024, 256] inb) : FVec Ideal S1024x256 .bf16) = V at hW ⊢
  pointwise
  exact Finset.sum_congr rfl fun e _ => congrArg (X (ix2 a e) * ·) (hW e)

/-- A stored slab: 128 columns of a chunk. -/
theorem slab_of (p : ℕ → ℕ → EReal) (j : ℕ) (inb : ∀ a, (![j, 0, 0] : Fin 3 → ℕ) a + S1x512x128.size a ≤ S36x512x128.size a)
    (Z : Vec Ideal S1x512x128 .f32) (hZ : ∀ (a : Fin 512) (b : Fin 128), Z (ix3 0 a b) = p a.val (128 * j + b.val)) (x : S1x512x128.Idx) :
    Z x = p ((Rect.unit (s := S36x512x128) ![j, 0, 0] S1x512x128.size inb).emb x 1).val
      (128 * ((Rect.unit (s := S36x512x128) ![j, 0, 0] S1x512x128.size inb).emb x 0).val + ((Rect.unit (s := S36x512x128) ![j, 0, 0] S1x512x128.size inb).emb x 2).val) := by
  have e0 : ((Rect.unit (s := S36x512x128) ![j, 0, 0] S1x512x128.size inb).emb x 0).val = j + (x 0).val := ValueKit.rect_emb_unit_val (s := S36x512x128) ![j, 0, 0] S1x512x128.size inb x 0
  have e1 : ((Rect.unit (s := S36x512x128) ![j, 0, 0] S1x512x128.size inb).emb x 1).val = 0 + (x 1).val := ValueKit.rect_emb_unit_val (s := S36x512x128) ![j, 0, 0] S1x512x128.size inb x 1
  have e2 : ((Rect.unit (s := S36x512x128) ![j, 0, 0] S1x512x128.size inb).emb x 2).val = 0 + (x 2).val := ValueKit.rect_emb_unit_val (s := S36x512x128) ![j, 0, 0] S1x512x128.size inb x 2
  have h0 : (x 0).val < 1 := (x 0).isLt
  rw [e0, e1, e2]
  exact ((congrArg Z (show x = ix3 0 (x 1) (x 2) from by idx_ext)).trans (hZ (x 1) (x 2))).trans (congrArg₂ p (by omega) (by omega))

theorem half_at (p : ℕ → ℕ → EReal) (j o h : ℕ) (hj : 128 * j = o + h) (hh : h + 128 ≤ 256) (M : FVec Ideal S512x256 .f32) (sl : S512x256.Slices ![0, h] S512x128)
    (hM : ∀ (a : Fin 512) (b : Fin 256), M (ix2 a b) = p a.val (o + b.val)) (a : Fin 512) (b : Fin 128) :
    shapeCast S1x512x128 (extractStridedSlice S512x128 ![0, h] M sl) shapeCasts_S512x128_S1x512x128 (ix3 0 a b) = p a.val (128 * j + b.val) := by
  refine Eq.trans ?_ ((hM a ⟨h + b.val, by omega⟩).trans (congrArg (p a.val) (show o + (h + b.val) = _ by omega)))
  pointwise

theorem slab (p : ℕ → ℕ → EReal) (j o h : ℕ) (hj : 128 * j = o + h) (hh : h + 128 ≤ 256) (inb : ∀ a, (![j, 0, 0] : Fin 3 → ℕ) a + (![1, 512, 128] : Fin 3 → ℕ) a ≤ S36x512x128.size a)
    (Z : Vec Ideal S1x512x128 .f32) (Y : FVec Ideal S512x128 .f32) (M : FVec Ideal S512x256 .f32) (sl : S512x256.Slices ![0, h] S512x128)
    (hZ : Z = shapeCast S1x512x128 Y shapeCasts_S512x128_S1x512x128) (hY : Y = extractStridedSlice S512x128 ![0, h] M sl)
    (hM : ∀ (a : Fin 512) (b : Fin 256), M (ix2 a b) = p a.val (o + b.val)) (L : List (View.Piece (Elt Ideal) S36x512x128 .f32))
    (hL : View.PiecesOf (fun z => p (z 1).val (128 * (z 0).val + (z 2).val)) L) :
    View.PiecesOf (fun z => p (z 1).val (128 * (z 0).val + (z 2).val)) ((⟨Rect.unit (s := S36x512x128) ![j, 0, 0] ![1, 512, 128] inb, Z⟩ : View.Piece (Elt Ideal) S36x512x128 .f32) :: L) :=
  ⟨slab_of p j inb Z fun a b => (congrFun (hZ.trans (congrArg (fun Y => shapeCast S1x512x128 Y shapeCasts_S512x128_S1x512x128) hY)) (ix3 0 a b)).trans (half_at p j o h hj hh M sl hM a b), hL⟩

/-- The slabs read back. -/
theorem stored (p : ℕ → ℕ → EReal) (L : List (View.Piece (Elt Ideal) S36x512x128 .f32))
    (hL : View.PiecesOf (fun z => p (z 1).val (128 * (z 0).val + (z 2).val)) L) (hc : View.Piece.tiledL L S1x512x128.size = true) (z : S36x512x128.Idx) :
    View.canon L z = p (z 1).val (128 * (z 0).val + (z 2).val) := by
  have := View.canon_append_of_piecesOf (fun z : S36x512x128.Idx => p (z 1).val (128 * (z 0).val + (z 2).val)) [] L hL z (View.cover_of_tiledL L S1x512x128.size hc z)
  rwa [List.append_nil] at this

/-- A piece of the first result: a slab's rows. -/
theorem part2_of (p : ℕ → ℕ → EReal) (r o : ℕ) (inb : ∀ a, (![0, r, 0, o] : Fin 4 → ℕ) a + S1x1x512x128.size a ≤ S1x1x512x1536.size a)
    (Z : Vec Ideal S1x1x512x128 .bf16) (hZ : ∀ (a : Fin 512) (b : Fin 128), Z (ix4 0 0 a b) = p (r + 1 * a.val) (0 + (o + b.val))) (x : S1x1x512x128.Idx) :
    Z x = p (((Rect.unit (s := S1x1x512x1536) ![0, r, 0, o] S1x1x512x128.size inb).emb x 1).val + 1 * ((Rect.unit (s := S1x1x512x1536) ![0, r, 0, o] S1x1x512x128.size inb).emb x 2).val) (0 + ((Rect.unit (s := S1x1x512x1536) ![0, r, 0, o] S1x1x512x128.size inb).emb x 3).val) := by
  have e1 : ((Rect.unit (s := S1x1x512x1536) ![0, r, 0, o] S1x1x512x128.size inb).emb x 1).val = r + (x 1).val := ValueKit.rect_emb_unit_val (s := S1x1x512x1536) ![0, r, 0, o] S1x1x512x128.size inb x 1
  have e2 : ((Rect.unit (s := S1x1x512x1536) ![0, r, 0, o] S1x1x512x128.size inb).emb x 2).val = 0 + (x 2).val := ValueKit.rect_emb_unit_val (s := S1x1x512x1536) ![0, r, 0, o] S1x1x512x128.size inb x 2
  have e3 : ((Rect.unit (s := S1x1x512x1536) ![0, r, 0, o] S1x1x512x128.size inb).emb x 3).val = o + (x 3).val := ValueKit.rect_emb_unit_val (s := S1x1x512x1536) ![0, r, 0, o] S1x1x512x128.size inb x 3
  have h1 : (x 1).val < 1 := (x 1).isLt
  rw [e1, e2, e3]
  exact ((congrArg Z (show x = ix4 0 0 (x 2) (x 3) from by idx_ext)).trans (hZ (x 2) (x 3))).trans (congrArg₂ p (by omega) (by omega))

theorem cast2_at (A : Vec Ideal S1x512x128 .f32) (a : Fin 512) (b : Fin 128) :
    shapeCast S1x1x512x128 (truncf (F := Ideal) (φ := .f32) .bf16 (shapeCast S512x128 (A : Vec Ideal S1x512x128 .f32) shapeCasts_S1x512x128_S512x128) bitsLt_bf16_f32) shapeCasts_S512x128_S1x1x512x128 (ix4 0 0 a b) = A (ix3 0 a b) := by
  pointwise

theorem read2_at (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val)) (j r o : ℕ) (hj : 128 * j = 0 + o)
    (inl : ∀ a, (![j, r, 0] : Fin 3 → ℕ) a + (![1, 512, 128] : Fin 3 → ℕ) a ≤ S36x512x128.size a) (a : Fin 512) (b : Fin 128) :
    shapeCast S1x1x512x128 (truncf (F := Ideal) (φ := .f32) .bf16 (shapeCast S512x128 (v.readCov L (Rect.unit (s := S36x512x128) ![j, r, 0] ![1, 512, 128] inl).toLoadRect : Vec Ideal S1x512x128 .f32) shapeCasts_S1x512x128_S512x128) bitsLt_bf16_f32) shapeCasts_S512x128_S1x1x512x128 (ix4 0 0 a b) = p (r + 1 * a.val) (0 + (o + b.val)) := by
  refine (cast2_at _ a b).trans ?_
  refine (congrFun (View.readCov_eq_canon' v L (Rect.unit (s := S36x512x128) ![j, r, 0] ![1, 512, 128] inl).toLoadRect) (ix3 0 a b)).trans ((hL _).trans (congrArg₂ p ?_ ?_))
  · show r + 1 * a.val = _; rfl
  · show 128 * (j + 1 * 0) + (0 + 1 * b.val) = _; omega

theorem part2 (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val))
    (j r o : ℕ) (hj : 128 * j = 0 + o) (inb : ∀ a, (![0, r, 0, o] : Fin 4 → ℕ) a + (![1, 1, 512, 128] : Fin 4 → ℕ) a ≤ S1x1x512x1536.size a)
    (inl : ∀ a, (![j, r, 0] : Fin 3 → ℕ) a + (![1, 512, 128] : Fin 3 → ℕ) a ≤ S36x512x128.size a) (Z : Vec Ideal S1x1x512x128 .bf16)
    (hZ : Z = shapeCast S1x1x512x128 (truncf (F := Ideal) (φ := .f32) .bf16 (shapeCast S512x128 (v.readCov L (Rect.unit (s := S36x512x128) ![j, r, 0] ![1, 512, 128] inl).toLoadRect : Vec Ideal S1x512x128 .f32) shapeCasts_S1x512x128_S512x128) bitsLt_bf16_f32) shapeCasts_S512x128_S1x1x512x128)
    (T : List (View.Piece (Elt Ideal) S1x1x512x1536 .bf16)) (hT : View.PiecesOf (fun y => p ((y 1).val + 1 * (y 2).val) (0 + (y 3).val)) T) :
    View.PiecesOf (fun y => p ((y 1).val + 1 * (y 2).val) (0 + (y 3).val)) ((⟨Rect.unit (s := S1x1x512x1536) ![0, r, 0, o] ![1, 1, 512, 128] inb, Z⟩ : View.Piece (Elt Ideal) S1x1x512x1536 .bf16) :: T) :=
  ⟨part2_of p r o inb Z fun a b => (congrFun hZ (ix4 0 0 a b)).trans (read2_at p v L hL j r o hj inl a b), hT⟩

/-- A piece of the second result: every fourth row of a slab. -/
theorem part3_of (p : ℕ → ℕ → EReal) (r o : ℕ) (inb : ∀ a, (![0, r, 0, o] : Fin 4 → ℕ) a + S1x1x128x128.size a ≤ S1x4x128x1536.size a)
    (Z : Vec Ideal S1x1x128x128 .bf16) (hZ : ∀ (a : Fin 128) (b : Fin 128), Z (ix4 0 0 a b) = p (r + 4 * a.val) (1536 + (o + b.val))) (x : S1x1x128x128.Idx) :
    Z x = p (((Rect.unit (s := S1x4x128x1536) ![0, r, 0, o] S1x1x128x128.size inb).emb x 1).val + 4 * ((Rect.unit (s := S1x4x128x1536) ![0, r, 0, o] S1x1x128x128.size inb).emb x 2).val) (1536 + ((Rect.unit (s := S1x4x128x1536) ![0, r, 0, o] S1x1x128x128.size inb).emb x 3).val) := by
  have e1 : ((Rect.unit (s := S1x4x128x1536) ![0, r, 0, o] S1x1x128x128.size inb).emb x 1).val = r + (x 1).val := ValueKit.rect_emb_unit_val (s := S1x4x128x1536) ![0, r, 0, o] S1x1x128x128.size inb x 1
  have e2 : ((Rect.unit (s := S1x4x128x1536) ![0, r, 0, o] S1x1x128x128.size inb).emb x 2).val = 0 + (x 2).val := ValueKit.rect_emb_unit_val (s := S1x4x128x1536) ![0, r, 0, o] S1x1x128x128.size inb x 2
  have e3 : ((Rect.unit (s := S1x4x128x1536) ![0, r, 0, o] S1x1x128x128.size inb).emb x 3).val = o + (x 3).val := ValueKit.rect_emb_unit_val (s := S1x4x128x1536) ![0, r, 0, o] S1x1x128x128.size inb x 3
  have h1 : (x 1).val < 1 := (x 1).isLt
  rw [e1, e2, e3]
  exact ((congrArg Z (show x = ix4 0 0 (x 2) (x 3) from by idx_ext)).trans (hZ (x 2) (x 3))).trans (congrArg₂ p (by omega) (by omega))

theorem cast3_at (A : Vec Ideal S1x128x128 .f32) (a : Fin 128) (b : Fin 128) :
    shapeCast S1x1x128x128 (truncf (F := Ideal) (φ := .f32) .bf16 (shapeCast S128x128 (A : Vec Ideal S1x128x128 .f32) shapeCasts_S1x128x128_S128x128) bitsLt_bf16_f32) shapeCasts_S128x128_S1x1x128x128 (ix4 0 0 a b) = A (ix3 0 a b) := by
  pointwise

theorem read3_at (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val)) (j r o : ℕ) (hj : 128 * j = 1536 + o)
    (inl : ∀ a, (![1, 128, 128] : Fin 3 → ℕ) a = 0 ∨ (![j, r, 0] : Fin 3 → ℕ) a + (![1, 4, 1] : Fin 3 → ℕ) a * ((![1, 128, 128] : Fin 3 → ℕ) a - 1) < S36x512x128.size a) (a : Fin 128) (b : Fin 128) :
    shapeCast S1x1x128x128 (truncf (F := Ideal) (φ := .f32) .bf16 (shapeCast S128x128 (v.readCov L ⟨![j, r, 0], ![1, 128, 128], ![1, 4, 1], inl⟩ : Vec Ideal S1x128x128 .f32) shapeCasts_S1x128x128_S128x128) bitsLt_bf16_f32) shapeCasts_S128x128_S1x1x128x128 (ix4 0 0 a b) = p (r + 4 * a.val) (1536 + (o + b.val)) := by
  refine (cast3_at _ a b).trans ?_
  refine (congrFun (View.readCov_eq_canon' v L ⟨![j, r, 0], ![1, 128, 128], ![1, 4, 1], inl⟩) (ix3 0 a b)).trans ((hL _).trans (congrArg₂ p ?_ ?_))
  · show r + 4 * a.val = _; rfl
  · show 128 * (j + 1 * 0) + (0 + 1 * b.val) = _; omega

theorem part3 (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val))
    (j r o : ℕ) (hj : 128 * j = 1536 + o) (inb : ∀ a, (![0, r, 0, o] : Fin 4 → ℕ) a + (![1, 1, 128, 128] : Fin 4 → ℕ) a ≤ S1x4x128x1536.size a)
    (inl : ∀ a, (![1, 128, 128] : Fin 3 → ℕ) a = 0 ∨ (![j, r, 0] : Fin 3 → ℕ) a + (![1, 4, 1] : Fin 3 → ℕ) a * ((![1, 128, 128] : Fin 3 → ℕ) a - 1) < S36x512x128.size a) (Z : Vec Ideal S1x1x128x128 .bf16)
    (hZ : Z = shapeCast S1x1x128x128 (truncf (F := Ideal) (φ := .f32) .bf16 (shapeCast S128x128 (v.readCov L ⟨![j, r, 0], ![1, 128, 128], ![1, 4, 1], inl⟩ : Vec Ideal S1x128x128 .f32) shapeCasts_S1x128x128_S128x128) bitsLt_bf16_f32) shapeCasts_S128x128_S1x1x128x128)
    (T : List (View.Piece (Elt Ideal) S1x4x128x1536 .bf16)) (hT : View.PiecesOf (fun y => p ((y 1).val + 4 * (y 2).val) (1536 + (y 3).val)) T) :
    View.PiecesOf (fun y => p ((y 1).val + 4 * (y 2).val) (1536 + (y 3).val)) ((⟨Rect.unit (s := S1x4x128x1536) ![0, r, 0, o] ![1, 1, 128, 128] inb, Z⟩ : View.Piece (Elt Ideal) S1x4x128x1536 .bf16) :: T) :=
  ⟨part3_of p r o inb Z fun a b => (congrFun hZ (ix4 0 0 a b)).trans (read3_at p v L hL j r o hj inl a b), hT⟩

/-- A piece of the third result: every sixteenth row of a slab. -/
theorem part4_of (p : ℕ → ℕ → EReal) (r o : ℕ) (inb : ∀ a, (![0, r, 0, o] : Fin 4 → ℕ) a + S1x1x32x128.size a ≤ S1x16x32x1536.size a)
    (Z : Vec Ideal S1x1x32x128 .bf16) (hZ : ∀ (a : Fin 32) (b : Fin 128), Z (ix4 0 0 a b) = p (r + 16 * a.val) (3072 + (o + b.val))) (x : S1x1x32x128.Idx) :
    Z x = p (((Rect.unit (s := S1x16x32x1536) ![0, r, 0, o] S1x1x32x128.size inb).emb x 1).val + 16 * ((Rect.unit (s := S1x16x32x1536) ![0, r, 0, o] S1x1x32x128.size inb).emb x 2).val) (3072 + ((Rect.unit (s := S1x16x32x1536) ![0, r, 0, o] S1x1x32x128.size inb).emb x 3).val) := by
  have e1 : ((Rect.unit (s := S1x16x32x1536) ![0, r, 0, o] S1x1x32x128.size inb).emb x 1).val = r + (x 1).val := ValueKit.rect_emb_unit_val (s := S1x16x32x1536) ![0, r, 0, o] S1x1x32x128.size inb x 1
  have e2 : ((Rect.unit (s := S1x16x32x1536) ![0, r, 0, o] S1x1x32x128.size inb).emb x 2).val = 0 + (x 2).val := ValueKit.rect_emb_unit_val (s := S1x16x32x1536) ![0, r, 0, o] S1x1x32x128.size inb x 2
  have e3 : ((Rect.unit (s := S1x16x32x1536) ![0, r, 0, o] S1x1x32x128.size inb).emb x 3).val = o + (x 3).val := ValueKit.rect_emb_unit_val (s := S1x16x32x1536) ![0, r, 0, o] S1x1x32x128.size inb x 3
  have h1 : (x 1).val < 1 := (x 1).isLt
  rw [e1, e2, e3]
  exact ((congrArg Z (show x = ix4 0 0 (x 2) (x 3) from by idx_ext)).trans (hZ (x 2) (x 3))).trans (congrArg₂ p (by omega) (by omega))

theorem cast4_at (A : Vec Ideal S1x32x128 .f32) (a : Fin 32) (b : Fin 128) :
    shapeCast S1x1x32x128 (truncf (F := Ideal) (φ := .f32) .bf16 (shapeCast S32x128 (A : Vec Ideal S1x32x128 .f32) shapeCasts_S1x32x128_S32x128) bitsLt_bf16_f32) shapeCasts_S32x128_S1x1x32x128 (ix4 0 0 a b) = A (ix3 0 a b) := by
  pointwise

theorem read4_at (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val)) (j r o : ℕ) (hj : 128 * j = 3072 + o)
    (inl : ∀ a, (![1, 32, 128] : Fin 3 → ℕ) a = 0 ∨ (![j, r, 0] : Fin 3 → ℕ) a + (![1, 16, 1] : Fin 3 → ℕ) a * ((![1, 32, 128] : Fin 3 → ℕ) a - 1) < S36x512x128.size a) (a : Fin 32) (b : Fin 128) :
    shapeCast S1x1x32x128 (truncf (F := Ideal) (φ := .f32) .bf16 (shapeCast S32x128 (v.readCov L ⟨![j, r, 0], ![1, 32, 128], ![1, 16, 1], inl⟩ : Vec Ideal S1x32x128 .f32) shapeCasts_S1x32x128_S32x128) bitsLt_bf16_f32) shapeCasts_S32x128_S1x1x32x128 (ix4 0 0 a b) = p (r + 16 * a.val) (3072 + (o + b.val)) := by
  refine (cast4_at _ a b).trans ?_
  refine (congrFun (View.readCov_eq_canon' v L ⟨![j, r, 0], ![1, 32, 128], ![1, 16, 1], inl⟩) (ix3 0 a b)).trans ((hL _).trans (congrArg₂ p ?_ ?_))
  · show r + 16 * a.val = _; rfl
  · show 128 * (j + 1 * 0) + (0 + 1 * b.val) = _; omega

theorem part4 (p : ℕ → ℕ → EReal) (v : View sig .tc .vmem S36x512x128 .f32) (L : List (View.Piece (Elt Ideal) S36x512x128 .f32))
    (hL : ∀ z : S36x512x128.Idx, View.canon L z = p (z 1).val (128 * (z 0).val + (z 2).val))
    (j r o : ℕ) (hj : 128 * j = 3072 + o) (inb : ∀ a, (![0, r, 0, o] : Fin 4 → ℕ) a + (![1, 1, 32, 128] : Fin 4 → ℕ) a ≤ S1x16x32x1536.size a)
    (inl : ∀ a, (![1, 32, 128] : Fin 3 → ℕ) a = 0 ∨ (![j, r, 0] : Fin 3 → ℕ) a + (![1, 16, 1] : Fin 3 → ℕ) a * ((![1, 32, 128] : Fin 3 → ℕ) a - 1) < S36x512x128.size a) (Z : Vec Ideal S1x1x32x128 .bf16)
    (hZ : Z = shapeCast S1x1x32x128 (truncf (F := Ideal) (φ := .f32) .bf16 (shapeCast S32x128 (v.readCov L ⟨![j, r, 0], ![1, 32, 128], ![1, 16, 1], inl⟩ : Vec Ideal S1x32x128 .f32) shapeCasts_S1x32x128_S32x128) bitsLt_bf16_f32) shapeCasts_S32x128_S1x1x32x128)
    (T : List (View.Piece (Elt Ideal) S1x16x32x1536 .bf16)) (hT : View.PiecesOf (fun y => p ((y 1).val + 16 * (y 2).val) (3072 + (y 3).val)) T) :
    View.PiecesOf (fun y => p ((y 1).val + 16 * (y 2).val) (3072 + (y 3).val)) ((⟨Rect.unit (s := S1x16x32x1536) ![0, r, 0, o] ![1, 1, 32, 128] inb, Z⟩ : View.Piece (Elt Ideal) S1x16x32x1536 .bf16) :: T) :=
  ⟨part4_of p r o inb Z fun a b => (congrFun hZ (ix4 0 0 a b)).trans (read4_at p v L hL j r o hj inl a b), hT⟩

/-- A result, read from its pieces, which read the slabs. -/
theorem whole2 (p : ℕ → ℕ → EReal) (L : List (View.Piece (Elt Ideal) S36x512x128 .f32)) (T : List (View.Piece (Elt Ideal) S1x1x512x1536 .bf16)) (y : S1x1x512x1536.Idx)
    (hT : (∀ z : S36x512x128.Idx, View.canon L z = p (z 1).val (128 * (z 0).val + (z 2).val)) → View.PiecesOf (fun y => p ((y 1).val + 1 * (y 2).val) (0 + (y 3).val)) T)
    (hL : View.PiecesOf (fun z => p (z 1).val (128 * (z 0).val + (z 2).val)) L) (hc : View.Piece.tiledL L S1x512x128.size = true)
    (hy : View.Piece.tiledL T S1x1x512x128.size = true) : View.canon T y = p ((y 1).val + 1 * (y 2).val) (0 + (y 3).val) := by
  have := View.canon_append_of_piecesOf (fun y : S1x1x512x1536.Idx => p ((y 1).val + 1 * (y 2).val) (0 + (y 3).val)) [] T (hT (stored p L hL hc)) y (View.cover_of_tiledL T S1x1x512x128.size hy y)
  rwa [List.append_nil] at this

/-- A result, read from its pieces, which read the slabs. -/
theorem whole3 (p : ℕ → ℕ → EReal) (L : List (View.Piece (Elt Ideal) S36x512x128 .f32)) (T : List (View.Piece (Elt Ideal) S1x4x128x1536 .bf16)) (y : S1x4x128x1536.Idx)
    (hT : (∀ z : S36x512x128.Idx, View.canon L z = p (z 1).val (128 * (z 0).val + (z 2).val)) → View.PiecesOf (fun y => p ((y 1).val + 4 * (y 2).val) (1536 + (y 3).val)) T)
    (hL : View.PiecesOf (fun z => p (z 1).val (128 * (z 0).val + (z 2).val)) L) (hc : View.Piece.tiledL L S1x512x128.size = true)
    (hy : View.Piece.tiledL T S1x1x128x128.size = true) : View.canon T y = p ((y 1).val + 4 * (y 2).val) (1536 + (y 3).val) := by
  have := View.canon_append_of_piecesOf (fun y : S1x4x128x1536.Idx => p ((y 1).val + 4 * (y 2).val) (1536 + (y 3).val)) [] T (hT (stored p L hL hc)) y (View.cover_of_tiledL T S1x1x128x128.size hy y)
  rwa [List.append_nil] at this

/-- A result, read from its pieces, which read the slabs. -/
theorem whole4 (p : ℕ → ℕ → EReal) (L : List (View.Piece (Elt Ideal) S36x512x128 .f32)) (T : List (View.Piece (Elt Ideal) S1x16x32x1536 .bf16)) (y : S1x16x32x1536.Idx)
    (hT : (∀ z : S36x512x128.Idx, View.canon L z = p (z 1).val (128 * (z 0).val + (z 2).val)) → View.PiecesOf (fun y => p ((y 1).val + 16 * (y 2).val) (3072 + (y 3).val)) T)
    (hL : View.PiecesOf (fun z => p (z 1).val (128 * (z 0).val + (z 2).val)) L) (hc : View.Piece.tiledL L S1x512x128.size = true)
    (hy : View.Piece.tiledL T S1x1x32x128.size = true) : View.canon T y = p ((y 1).val + 16 * (y 2).val) (3072 + (y 3).val) := by
  have := View.canon_append_of_piecesOf (fun y : S1x16x32x1536.Idx => p ((y 1).val + 16 * (y 2).val) (3072 + (y 3).val)) [] T (hT (stored p L hL hc)) y (View.cover_of_tiledL T S1x1x32x128.size hy y)
  rwa [List.append_nil] at this
end Cert.QkvIdeal.Pf
-- ==== Proof.Qkv.Out.lean ====
module
public import proofs.«01_k».proof.Proof.Qkv.Kern
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.QkvIdeal.Pf
open Cert.QkvIdeal Cert.QkvIdeal.Gen

set_option maxHeartbeats 2000000 in
/-- A grid point's first result, over its rows of the projection. -/
theorem out2_at (m : (ℓ : Loc nD τ sig) → Buf (Elt Ideal) ℓ) (c : Dev nD) (t : Fin cfg0.N) (p : ℕ → ℕ → EReal) (X : Vec Ideal S512x1024 .f32) (W : Vec Ideal S1024x4608 .bf16)
    (eX : iblk m c 0 t = X) (eW : iblk m c 1 t = W)
    (hX : ∀ (a : Fin 512) (k : Fin 4608), (∑ e : Fin 1024, X (ix2 a e) * W (ix2 e k)) = p a.val k.val) (y : S1x1x512x1536.Idx) :
    (outsAt0 m c t).1 y = p ((y 1).val + 1 * (y 2).val) (0 + (y 3).val) := by
  unfold outsAt0
  unfold out0_A_2
  frame_out
  rw [eX, eW]
  apply whole2 p
  case hT =>
    intro key
    repeat refine part2 p _ _ key _ _ _ (by rfl) _ _ _ rfl _ ?_
    exact trivial
  case hL =>
    dsimp only [k0_pay9, k0_pay18, k0_pay19, k0_pay28, k0_pay29, k0_pay55]
    repeat refine slab p _ _ _ (by rfl) (by decide) _ _ _ _ _ rfl rfl (fun a b => prod_at (truncf (F := Ideal) (φ := .f32) .bf16 X bitsLt_bf16_f32) W p hX _ _ a b) _ ?_
    exact trivial
  case hc => sl_kernel_rfl
  case hy => sl_kernel_rfl

set_option maxHeartbeats 2000000 in
/-- Its second result, whose rows are taken every fourth. -/
theorem out3_at (m : (ℓ : Loc nD τ sig) → Buf (Elt Ideal) ℓ) (c : Dev nD) (t : Fin cfg0.N) (p : ℕ → ℕ → EReal) (X : Vec Ideal S512x1024 .f32) (W : Vec Ideal S1024x4608 .bf16)
    (eX : iblk m c 0 t = X) (eW : iblk m c 1 t = W)
    (hX : ∀ (a : Fin 512) (k : Fin 4608), (∑ e : Fin 1024, X (ix2 a e) * W (ix2 e k)) = p a.val k.val) (y : S1x4x128x1536.Idx) :
    (outsAt0 m c t).2.1 y = p ((y 1).val + 4 * (y 2).val) (1536 + (y 3).val) := by
  unfold outsAt0
  unfold out0_A_3
  frame_out
  rw [eX, eW]
  apply whole3 p
  case hT =>
    intro key
    repeat refine part3 p _ _ key _ _ _ (by rfl) _ _ _ rfl _ ?_
    exact trivial
  case hL =>
    dsimp only [k0_pay9, k0_pay18, k0_pay19, k0_pay28, k0_pay29, k0_pay55]
    repeat refine slab p _ _ _ (by rfl) (by decide) _ _ _ _ _ rfl rfl (fun a b => prod_at (truncf (F := Ideal) (φ := .f32) .bf16 X bitsLt_bf16_f32) W p hX _ _ a b) _ ?_
    exact trivial
  case hc => sl_kernel_rfl
  case hy => sl_kernel_rfl

set_option maxHeartbeats 2000000 in
/-- Its third result, whose rows are taken every sixteenth. -/
theorem out4_at (m : (ℓ : Loc nD τ sig) → Buf (Elt Ideal) ℓ) (c : Dev nD) (t : Fin cfg0.N) (p : ℕ → ℕ → EReal) (X : Vec Ideal S512x1024 .f32) (W : Vec Ideal S1024x4608 .bf16)
    (eX : iblk m c 0 t = X) (eW : iblk m c 1 t = W)
    (hX : ∀ (a : Fin 512) (k : Fin 4608), (∑ e : Fin 1024, X (ix2 a e) * W (ix2 e k)) = p a.val k.val) (y : S1x16x32x1536.Idx) :
    (outsAt0 m c t).2.2 y = p ((y 1).val + 16 * (y 2).val) (3072 + (y 3).val) := by
  unfold outsAt0
  unfold out0_A_4
  frame_out
  rw [eX, eW]
  apply whole4 p
  case hT =>
    intro key
    repeat refine part4 p _ _ key _ _ _ (by rfl) _ _ _ rfl _ ?_
    exact trivial
  case hL =>
    dsimp only [k0_pay9, k0_pay18, k0_pay19, k0_pay28, k0_pay29, k0_pay55]
    repeat refine slab p _ _ _ (by rfl) (by decide) _ _ _ _ _ rfl rfl (fun a b => prod_at (truncf (F := Ideal) (φ := .f32) .bf16 X bitsLt_bf16_f32) W p hX _ _ a b) _ ?_
    exact trivial
  case hc => sl_kernel_rfl
  case hy => sl_kernel_rfl
end Cert.QkvIdeal.Pf
-- ==== Proof.Qkv.Spec.lean ====
module
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Qkv

/-- One projected entry. -/
def row (x : Vec Ideal ⟨2, ![16384, 1024]⟩ .f32) (W : Vec Ideal ⟨2, ![1024, 4608]⟩ .bf16) (n k : ℕ) : EReal :=
  if h : n < 16384 ∧ k < 4608 then ∑ e : Fin 1024, x (ix2 ⟨n, h.1⟩ e) * W (ix2 e ⟨k, h.2⟩) else 0

theorem row_of (x : Vec Ideal ⟨2, ![16384, 1024]⟩ .f32) (W : Vec Ideal ⟨2, ![1024, 4608]⟩ .bf16) (n : Fin 16384) (k : Fin 4608) (n' k' : ℕ) (hn : n.val = n') (hk : k.val = k') :
    ∑ e : Fin 1024, x (ix2 n e) * W (ix2 e k) = row x W n' k' := by
  subst hn hk
  unfold row
  rw [dif_pos ⟨n.isLt, k.isLt⟩]

end Cert.Qkv
end
-- ==== Proof.Qkv.Value.lean ====
module
public import proofs.«01_k».proof.Proof.Qkv.Out
public import proofs.«01_k».proof.Proof.Qkv.Spec
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.QkvIdeal.Pf
open Cert.QkvIdeal Cert.QkvIdeal.Gen
variable (m : (ℓ : Loc nD τ sig) → Buf (Elt Ideal) ℓ)

/-- The block positions of every window. -/
theorem idx : ∀ t : Fin cfg0.N, win0_0.index t = ![t.val, 0] ∧ win0_1.index t = ![0, 0] ∧ win0_2.index t = ![t.val / 16, 0, t.val % 16, 0]
    ∧ win0_3.index t = ![t.val / 16, 0, t.val % 16, 0] ∧ win0_4.index t = ![t.val / 16, 0, t.val % 16, 0] :=
  (by decide +kernel : ∀ t : Fin grid0.N, _)

theorem lt_32 (t : Fin cfg0.N) : t.val < 32 := t.isLt

theorem arg1_at (c : Dev nD) (t : Fin cfg0.N) : iblk m c 1 t = m ((c : Thread nD τ).loc main_arg1) := by funext x; blk_ext [iblk, V, idx t]

theorem arg0_at (c : Dev nD) (t : Fin cfg0.N) (a : Fin 512) (e : Fin 1024) (n : Fin 16384) (hn : n.val = 512 * t.val + a.val) :
    iblk m c 0 t (ix2 a e) = m ((c : Thread nD τ).loc main_arg0) (ix2 n e) := by
  refine Eq.trans ?_ (congrArg (fun n => m ((c : Thread nD τ).loc main_arg0) (ix2 n e)) (Fin.ext hn : n = ⟨512 * t.val + a.val, by have := lt_32 t; omega⟩).symm)
  blk_ext [iblk, V, idx t]

/-- The rows a grid point projects. -/
theorem own (c : Dev nD) (t : Fin cfg0.N) (X : Vec Ideal S512x1024 .f32) (eX : iblk m c 0 t = X) (Y : Vec Ideal S16384x1024 .f32) (eY : m ((c : Thread nD τ).loc main_arg0) = Y)
    (W : Vec Ideal S1024x4608 .bf16) (a : Fin 512) (k : Fin 4608) :
    (∑ e : Fin 1024, X (ix2 a e) * W (ix2 e k)) = Qkv.row Y W (512 * t.val + a.val) k.val := by
  subst eX eY
  have ht := lt_32 t
  refine Eq.trans (Finset.sum_congr rfl fun e _ => ?_) (Qkv.row_of (m ((c : Thread nD τ).loc main_arg0)) W ⟨512 * t.val + a.val, by omega⟩ k _ _ rfl rfl)
  exact congrArg (fun u : EReal => u * W (ix2 e k)) (arg0_at m c t a e ⟨512 * t.val + a.val, by omega⟩ rfl)

/-- The first result: the rows in order. -/
def G2 (x : Vec Ideal S16384x1024 .f32) (W : Vec Ideal S1024x4608 .bf16) : Vec Ideal S2x1x8192x1536 .bf16 :=
  fun i => Qkv.row x W (8192 * (i 0).val + (i 1).val + 1 * (i 2).val) (0 + (i 3).val)

theorem final2 (c : Dev nD) : (dats m 0 c).arrAt 2 cfg0.N = G2 (m ((c : Thread nD τ).loc main_arg0)) (m ((c : Thread nD τ).loc main_arg1)) := by
  refine (dats m 0 c).arrAt_eq_of_covers 2 _ (by decide +kernel) fun t _ y => ?_
  blk_simp
  rw [after0_2]
  have ht := lt_32 t
  refine (out2_at m c t (fun n k => Qkv.row (m ((c : Thread nD τ).loc main_arg0)) (m ((c : Thread nD τ).loc main_arg1)) (512 * t.val + n) k) (iblk m c 0 t) (m ((c : Thread nD τ).loc main_arg1))
    rfl (arg1_at m c t) (own m c t _ rfl _ rfl _) y).trans ?_
  have e0 : (((win0_2.blk t).view.emb y) 0).val = t.val / 16 := by blk_simp [idx t]; try omega
  have e1 : (((win0_2.blk t).view.emb y) 1).val = (y 1).val := by blk_simp [idx t]; try omega
  have e2 : (((win0_2.blk t).view.emb y) 2).val = 512 * (t.val % 16) + (y 2).val := by blk_simp [idx t]; try omega
  have e3 : (((win0_2.blk t).view.emb y) 3).val = (y 3).val := by blk_simp [idx t]; try omega
  show Qkv.row _ _ (512 * t.val + ((y 1).val + 1 * (y 2).val)) (0 + (y 3).val)
    = Qkv.row _ _ (8192 * (((win0_2.blk t).view.emb y) 0).val + (((win0_2.blk t).view.emb y) 1).val + 1 * (((win0_2.blk t).view.emb y) 2).val) (0 + (((win0_2.blk t).view.emb y) 3).val)
  rw [e0, e1, e2, e3]
  exact congrArg (fun n => Qkv.row _ _ n _) (by omega)

/-- The second result: four interleaved runs of rows. -/
def G3 (x : Vec Ideal S16384x1024 .f32) (W : Vec Ideal S1024x4608 .bf16) : Vec Ideal S2x4x2048x1536 .bf16 :=
  fun i => Qkv.row x W (8192 * (i 0).val + (i 1).val + 4 * (i 2).val) (1536 + (i 3).val)

theorem final3 (c : Dev nD) : (dats m 0 c).arrAt 3 cfg0.N = G3 (m ((c : Thread nD τ).loc main_arg0)) (m ((c : Thread nD τ).loc main_arg1)) := by
  refine (dats m 0 c).arrAt_eq_of_covers 3 _ (by decide +kernel) fun t _ y => ?_
  blk_simp
  rw [after0_3]
  have ht := lt_32 t
  refine (out3_at m c t (fun n k => Qkv.row (m ((c : Thread nD τ).loc main_arg0)) (m ((c : Thread nD τ).loc main_arg1)) (512 * t.val + n) k) (iblk m c 0 t) (m ((c : Thread nD τ).loc main_arg1))
    rfl (arg1_at m c t) (own m c t _ rfl _ rfl _) y).trans ?_
  have e0 : (((win0_3.blk t).view.emb y) 0).val = t.val / 16 := by blk_simp [idx t]; try omega
  have e1 : (((win0_3.blk t).view.emb y) 1).val = (y 1).val := by blk_simp [idx t]; try omega
  have e2 : (((win0_3.blk t).view.emb y) 2).val = 128 * (t.val % 16) + (y 2).val := by blk_simp [idx t]; try omega
  have e3 : (((win0_3.blk t).view.emb y) 3).val = (y 3).val := by blk_simp [idx t]; try omega
  show Qkv.row _ _ (512 * t.val + ((y 1).val + 4 * (y 2).val)) (1536 + (y 3).val)
    = Qkv.row _ _ (8192 * (((win0_3.blk t).view.emb y) 0).val + (((win0_3.blk t).view.emb y) 1).val + 4 * (((win0_3.blk t).view.emb y) 2).val) (1536 + (((win0_3.blk t).view.emb y) 3).val)
  rw [e0, e1, e2, e3]
  exact congrArg (fun n => Qkv.row _ _ n _) (by omega)

/-- The third result: sixteen interleaved runs of rows. -/
def G4 (x : Vec Ideal S16384x1024 .f32) (W : Vec Ideal S1024x4608 .bf16) : Vec Ideal S2x16x512x1536 .bf16 :=
  fun i => Qkv.row x W (8192 * (i 0).val + (i 1).val + 16 * (i 2).val) (3072 + (i 3).val)

theorem final4 (c : Dev nD) : (dats m 0 c).arrAt 4 cfg0.N = G4 (m ((c : Thread nD τ).loc main_arg0)) (m ((c : Thread nD τ).loc main_arg1)) := by
  refine (dats m 0 c).arrAt_eq_of_covers 4 _ (by decide +kernel) fun t _ y => ?_
  blk_simp
  rw [after0_4]
  have ht := lt_32 t
  refine (out4_at m c t (fun n k => Qkv.row (m ((c : Thread nD τ).loc main_arg0)) (m ((c : Thread nD τ).loc main_arg1)) (512 * t.val + n) k) (iblk m c 0 t) (m ((c : Thread nD τ).loc main_arg1))
    rfl (arg1_at m c t) (own m c t _ rfl _ rfl _) y).trans ?_
  have e0 : (((win0_4.blk t).view.emb y) 0).val = t.val / 16 := by blk_simp [idx t]; try omega
  have e1 : (((win0_4.blk t).view.emb y) 1).val = (y 1).val := by blk_simp [idx t]; try omega
  have e2 : (((win0_4.blk t).view.emb y) 2).val = 32 * (t.val % 16) + (y 2).val := by blk_simp [idx t]; try omega
  have e3 : (((win0_4.blk t).view.emb y) 3).val = (y 3).val := by blk_simp [idx t]; try omega
  show Qkv.row _ _ (512 * t.val + ((y 1).val + 16 * (y 2).val)) (3072 + (y 3).val)
    = Qkv.row _ _ (8192 * (((win0_4.blk t).view.emb y) 0).val + (((win0_4.blk t).view.emb y) 1).val + 16 * (((win0_4.blk t).view.emb y) 2).val) (3072 + (((win0_4.blk t).view.emb y) 3).val)
  rw [e0, e1, e2, e3]
  exact congrArg (fun n => Qkv.row _ _ n _) (by omega)

end Cert.QkvIdeal.Pf
end
-- ==== Proof.Qkv.Ref.lean ====
module
public import proofs.«01_k».proof.Proof.Gen.QkvRefIdeal.Read
public import proofs.«01_k».proof.Proof.Qkv.Spec
@[expose] public section
set_option maxRecDepth 16384
noncomputable section
open Idealize.ShloMosaic Idealize.ShloMosaic.TcCoe Idealize.SL.Sem
namespace Cert.QkvRefIdeal.Pf
open Cert.QkvRefIdeal Cert.QkvRefIdeal.Read

/-- The projected rows of the reference. -/
theorem row_at (x0 : Vec Ideal S16384x1024 .f32) (x1 : Vec Ideal S1024x4608 .bf16) (n : Fin 16384) (k : Fin 4608) :
    val_main_v1 (F := Ideal) x0 x1 (ix2 n k) = Qkv.row x0 x1 n.val k.val := by
  refine Eq.trans ?_ (Qkv.row_of x0 x1 n k _ _ rfl rfl)
  pointwise [val_main_v1, val_main_v0]

/-- The same rows, sequence by sequence. -/
theorem seq_at (x0 : Vec Ideal S16384x1024 .f32) (x1 : Vec Ideal S1024x4608 .bf16) (b : Fin 2) (r : Fin 8192) (k : Fin 4608) :
    val_main_v2 (F := Ideal) x0 x1 (ix3 b r k) = Qkv.row x0 x1 (8192 * b.val + r.val) k.val := by
  have h := row_at x0 x1
  unfold val_main_v2
  generalize val_main_v1 (F := Ideal) x0 x1 = A at h ⊢
  pointwise
  exact (h _ k).trans (congrArg (fun n => Qkv.row _ _ n _) (by show b.val * 8192 + r.val = _; omega))

theorem out2_at (x0 : Vec Ideal S16384x1024 .f32) (x1 : Vec Ideal S1024x4608 .bf16) (b : Fin 2) (r : Fin 1) (j : Fin 8192) (k : Fin 1536) :
    val_main_v6 (F := Ideal) x0 x1 (ix4 b r j k) = Qkv.row x0 x1 (8192 * b.val + r.val + 1 * j.val) (0 + k.val) := by
  have h := seq_at x0 x1
  have hn : 1 * j.val + r.val < 8192 := by omega
  unfold val_main_v6 val_main_v5 val_main_v4 val_main_v3
  generalize val_main_v2 (F := Ideal) x0 x1 = A at h ⊢
  refine Eq.trans ?_ ((h b ⟨1 * j.val + r.val, hn⟩ ⟨0 + k.val, by omega⟩).trans (congrArg (fun n => Qkv.row _ _ n _) (by show 8192 * b.val + (1 * j.val + r.val) = _; omega)))
  pointwise

theorem out3_at (x0 : Vec Ideal S16384x1024 .f32) (x1 : Vec Ideal S1024x4608 .bf16) (b : Fin 2) (r : Fin 4) (j : Fin 2048) (k : Fin 1536) :
    val_main_v10 (F := Ideal) x0 x1 (ix4 b r j k) = Qkv.row x0 x1 (8192 * b.val + r.val + 4 * j.val) (1536 + k.val) := by
  have h := seq_at x0 x1
  have hn : j.val * 4 + r.val < 8192 := by omega
  unfold val_main_v10 val_main_v9 val_main_v8 val_main_v7
  generalize val_main_v2 (F := Ideal) x0 x1 = A at h ⊢
  refine Eq.trans ?_ ((h b ⟨j.val * 4 + r.val, hn⟩ ⟨1536 + k.val, by omega⟩).trans (congrArg (fun n => Qkv.row _ _ n _) (by show 8192 * b.val + (j.val * 4 + r.val) = _; omega)))
  pointwise

theorem out4_at (x0 : Vec Ideal S16384x1024 .f32) (x1 : Vec Ideal S1024x4608 .bf16) (b : Fin 2) (r : Fin 16) (j : Fin 512) (k : Fin 1536) :
    val_main_v14 (F := Ideal) x0 x1 (ix4 b r j k) = Qkv.row x0 x1 (8192 * b.val + r.val + 16 * j.val) (3072 + k.val) := by
  have h := seq_at x0 x1
  have hn : j.val * 16 + r.val < 8192 := by omega
  unfold val_main_v14 val_main_v13 val_main_v12 val_main_v11
  generalize val_main_v2 (F := Ideal) x0 x1 = A at h ⊢
  refine Eq.trans ?_ ((h b ⟨j.val * 16 + r.val, hn⟩ ⟨3072 + k.val, by omega⟩).trans (congrArg (fun n => Qkv.row _ _ n _) (by show 8192 * b.val + (j.val * 16 + r.val) = _; omega)))
  pointwise

end Cert.QkvRefIdeal.Pf
end
-- ==== Proof.lean ====
module

public import proofs.«01_k».proof.Defs
public import proofs.«01_k».proof.Proof.Gen.Ffn.Frame
public import proofs.«01_k».proof.Proof.Gen.FfnPe.Frame
public import proofs.«01_k».proof.Proof.Ffn.Value
public import proofs.«01_k».proof.Proof.Ffn.Ref
public import proofs.«01_k».proof.Proof.Gen.Zx.Frame
public import proofs.«01_k».proof.Proof.Zx.Value
public import proofs.«01_k».proof.Proof.Zx.Ref
public import proofs.«01_k».proof.Proof.Gen.Qkv.Frame
public import proofs.«01_k».proof.Proof.Qkv.Value
public import proofs.«01_k».proof.Proof.Qkv.Ref

@[expose] public section
set_option maxRecDepth 16384

open Idealize.ShloMosaic Idealize.ShloMosaic.TcCoe Idealize.SL.Sem

namespace Cert.Proof

theorem frame_Ffn : quiescent_Ffn (hFfn := Cert.Ffn.Gen.facts) := fun m g _ => Cert.Ffn.Gen.frame m g

theorem frame_FfnPe : quiescent_FfnPe (hFfnPe := Cert.FfnPe.Gen.facts) := fun m g _ => Cert.FfnPe.Gen.frame m g

theorem frame_FfnRefIdeal : quiescent_FfnRefIdeal (hFfnRefIdeal := Cert.FfnRefIdeal.Gen.facts) := fun m g _ =>
  (θ_run _ _ _).mono (fun r h => ⟨fun c => (h c).2, sem_eq_zero_of_no_sems rfl _⟩) (Cert.FfnRefIdeal.Value.run m g)

theorem frame_FfnPeRefIdeal : quiescent_FfnPeRefIdeal (hFfnPeRefIdeal := Cert.FfnPeRefIdeal.Gen.facts) := fun m g _ =>
  (θ_run _ _ _).mono (fun r h => ⟨fun c => (h c).2, sem_eq_zero_of_no_sems rfl _⟩) (Cert.FfnPeRefIdeal.Value.run m g)

/-- The first feed-forward kernel's array is the reference's. -/
theorem value_Ffn : algebraic_FfnIdeal_FfnRefIdeal (hFfnIdeal := Cert.FfnIdeal.Gen.facts) (hFfnRefIdeal := Cert.FfnRefIdeal.Gen.facts) := by
  intro m g m' g' _ h
  refine ⟨fun c => Cert.FfnIdeal.Pf.G (m ((c.tc : Thread _ _).loc Cert.FfnIdeal.main_arg0)) (m ((c.tc : Thread _ _).loc Cert.FfnIdeal.main_arg1))
    (m ((c.tc : Thread _ _).loc Cert.FfnIdeal.main_arg2)) (m ((c.tc : Thread _ _).loc Cert.FfnIdeal.main_arg3)) (m ((c.tc : Thread _ _).loc Cert.FfnIdeal.main_arg4)), ?_, ?_⟩
  · refine (θ_run _ _ _).mono (fun r hr c => ?_) (Cert.FfnIdeal.Value.run_blocks m g)
    exact ⟨(hr c).1.trans (Cert.FfnIdeal.Pf.final m c), (hr c).2⟩
  · refine (θ_run _ _ _).mono (fun r hr c => ?_) (Cert.FfnRefIdeal.Value.run m' g')
    refine ⟨(hr c).1.trans ?_, (hr c).2⟩
    obtain ⟨h0, h1, h2, h3, h4⟩ := h c
    rw [Cert.FfnRefIdeal.Read.val_main_v38_eq, h0, h1, h2, h3, h4]
    funext i
    exact (congrArg _ (show i = ix2 (i 0) (i 1) from by idx_ext)).trans (Cert.FfnRefIdeal.Pf.ref_at _ _ _ _ _ (i 0) (i 1))

/-- The second feed-forward kernel's array is the reference's. -/
theorem value_FfnPe : algebraic_FfnPeIdeal_FfnPeRefIdeal (hFfnPeIdeal := Cert.FfnPeIdeal.Gen.facts) (hFfnPeRefIdeal := Cert.FfnPeRefIdeal.Gen.facts) := by
  intro m g m' g' _ h
  refine ⟨fun c => Cert.FfnPeIdeal.Pf.G (m ((c.tc : Thread _ _).loc Cert.FfnPeIdeal.main_arg0)) (m ((c.tc : Thread _ _).loc Cert.FfnPeIdeal.main_arg1))
    (m ((c.tc : Thread _ _).loc Cert.FfnPeIdeal.main_arg2)) (m ((c.tc : Thread _ _).loc Cert.FfnPeIdeal.main_arg3)) (m ((c.tc : Thread _ _).loc Cert.FfnPeIdeal.main_arg4))
    (m ((c.tc : Thread _ _).loc Cert.FfnPeIdeal.main_arg5)) (m ((c.tc : Thread _ _).loc Cert.FfnPeIdeal.main_arg6)) (m ((c.tc : Thread _ _).loc Cert.FfnPeIdeal.main_arg7)), ?_, ?_⟩
  · refine (θ_run _ _ _).mono (fun r hr c => ?_) (Cert.FfnPeIdeal.Value.run_blocks m g)
    exact ⟨(hr c).1.trans (Cert.FfnPeIdeal.Pf.final m c), (hr c).2⟩
  · refine (θ_run _ _ _).mono (fun r hr c => ?_) (Cert.FfnPeRefIdeal.Value.run m' g')
    refine ⟨(hr c).1.trans ?_, (hr c).2⟩
    obtain ⟨h0, h1, h2, h3, h4, h5, h6, h7⟩ := h c
    rw [Cert.FfnPeRefIdeal.Read.val_main_v50_eq, h0, h1, h2, h3, h4, h5, h6, h7]
    funext i
    exact (congrArg _ (show i = ix2 (i 0) (i 1) from by idx_ext)).trans (Cert.FfnPeRefIdeal.Pf.ref_at _ _ _ _ _ _ _ _ (i 0) (i 1))

theorem frame_Zx : quiescent_Zx (hZx := Cert.Zx.Gen.facts) := fun m g _ => Cert.Zx.Gen.frame m g

theorem frame_ZxRefIdeal : quiescent_ZxRefIdeal (hZxRefIdeal := Cert.ZxRefIdeal.Gen.facts) := fun m g _ =>
  (θ_run _ _ _).mono (fun r h => ⟨fun c => (h c).2.2.2, sem_eq_zero_of_no_sems rfl _⟩) (Cert.ZxRefIdeal.Value.run m g)

/-- The three arrays of the state-space projection kernel are the reference's. -/
theorem value_Zx : algebraic_ZxIdeal_ZxRefIdeal (hZxIdeal := Cert.ZxIdeal.Gen.facts) (hZxRefIdeal := Cert.ZxRefIdeal.Gen.facts) := by
  intro m g m' g' _ h
  refine ⟨fun c => Cert.ZxIdeal.Pf.Gz (m ((c.tc : Thread _ _).loc Cert.ZxIdeal.main_arg0)) (m ((c.tc : Thread _ _).loc Cert.ZxIdeal.main_arg1)),
    fun c => Cert.ZxIdeal.Pf.Gc (m ((c.tc : Thread _ _).loc Cert.ZxIdeal.main_arg0)) (m ((c.tc : Thread _ _).loc Cert.ZxIdeal.main_arg2))
      (m ((c.tc : Thread _ _).loc Cert.ZxIdeal.main_arg3)) (m ((c.tc : Thread _ _).loc Cert.ZxIdeal.main_arg4)),
    fun c => Cert.ZxIdeal.Pf.Gt (m ((c.tc : Thread _ _).loc Cert.ZxIdeal.main_arg0)) (m ((c.tc : Thread _ _).loc Cert.ZxIdeal.main_arg2)), ?_, ?_⟩
  · refine (θ_run _ _ _).mono (fun r hr c => ?_) (Cert.ZxIdeal.Value.run_blocks m g)
    exact ⟨(hr c).1.trans (Cert.ZxIdeal.Pf.final_z m c), (hr c).2.1.trans (Cert.ZxIdeal.Pf.final_c m c), (hr c).2.2.1.trans (Cert.ZxIdeal.Pf.final_t m c), (hr c).2.2.2⟩
  · refine (θ_run _ _ _).mono (fun r hr c => ?_) (Cert.ZxRefIdeal.Value.run m' g')
    obtain ⟨h0, h1, h2, h3, h4⟩ := h c
    refine ⟨(hr c).1.trans ?_, (hr c).2.1.trans ?_, (hr c).2.2.1.trans ?_, (hr c).2.2.2⟩
    · rw [Cert.ZxRefIdeal.Read.val_main_v41_eq, h0, h1]
      funext i
      exact (congrArg _ (show i = ix2 (i 0) (i 1) from by idx_ext)).trans (Cert.ZxRefIdeal.Pf.z_at _ _ (i 0) (i 1))
    · rw [Cert.ZxRefIdeal.Read.val_main_v43_eq, h0, h2, h3, h4]
      funext i
      exact (congrArg _ (show i = ix2 (i 0) (i 1) from by idx_ext)).trans (Cert.ZxRefIdeal.Pf.conv_at _ _ _ _ (i 0) (i 1))
    · rw [Cert.ZxRefIdeal.Read.val_main_v44_eq, h0, h2]
      funext i
      exact (congrArg _ (show i = ix3 (i 0) (i 1) (i 2) from by idx_ext)).trans (Cert.ZxRefIdeal.Pf.tail_at _ _ (i 0) (i 1) (i 2))

theorem frame_Qkv : quiescent_Qkv (hQkv := Cert.Qkv.Gen.facts) := fun m g _ => Cert.Qkv.Gen.frame m g

theorem frame_QkvRefIdeal : quiescent_QkvRefIdeal (hQkvRefIdeal := Cert.QkvRefIdeal.Gen.facts) := fun m g _ =>
  (θ_run _ _ _).mono (fun r h => ⟨fun c => (h c).2.2.2, sem_eq_zero_of_no_sems rfl _⟩) (Cert.QkvRefIdeal.Value.run m g)

/-- The three arrays of the projection to queries, keys and values are the reference's. -/
theorem value_Qkv : algebraic_QkvIdeal_QkvRefIdeal (hQkvIdeal := Cert.QkvIdeal.Gen.facts) (hQkvRefIdeal := Cert.QkvRefIdeal.Gen.facts) := by
  intro m g m' g' _ h
  refine ⟨fun c => Cert.QkvIdeal.Pf.G2 (m ((c.tc : Thread _ _).loc Cert.QkvIdeal.main_arg0)) (m ((c.tc : Thread _ _).loc Cert.QkvIdeal.main_arg1)),
    fun c => Cert.QkvIdeal.Pf.G3 (m ((c.tc : Thread _ _).loc Cert.QkvIdeal.main_arg0)) (m ((c.tc : Thread _ _).loc Cert.QkvIdeal.main_arg1)),
    fun c => Cert.QkvIdeal.Pf.G4 (m ((c.tc : Thread _ _).loc Cert.QkvIdeal.main_arg0)) (m ((c.tc : Thread _ _).loc Cert.QkvIdeal.main_arg1)), ?_, ?_⟩
  · refine (θ_run _ _ _).mono (fun r hr c => ?_) (Cert.QkvIdeal.Value.run_blocks m g)
    exact ⟨(hr c).1.trans (Cert.QkvIdeal.Pf.final2 m c), (hr c).2.1.trans (Cert.QkvIdeal.Pf.final3 m c), (hr c).2.2.1.trans (Cert.QkvIdeal.Pf.final4 m c), (hr c).2.2.2⟩
  · refine (θ_run _ _ _).mono (fun r hr c => ?_) (Cert.QkvRefIdeal.Value.run m' g')
    obtain ⟨h0, h1⟩ := h c
    refine ⟨(hr c).1.trans ?_, (hr c).2.1.trans ?_, (hr c).2.2.1.trans ?_, (hr c).2.2.2⟩
    · rw [Cert.QkvRefIdeal.Read.val_main_v6_eq, h0, h1]
      funext i
      exact (congrArg _ (show i = ix4 (i 0) (i 1) (i 2) (i 3) from by idx_ext)).trans (Cert.QkvRefIdeal.Pf.out2_at _ _ (i 0) (i 1) (i 2) (i 3))
    · rw [Cert.QkvRefIdeal.Read.val_main_v10_eq, h0, h1]
      funext i
      exact (congrArg _ (show i = ix4 (i 0) (i 1) (i 2) (i 3) from by idx_ext)).trans (Cert.QkvRefIdeal.Pf.out3_at _ _ (i 0) (i 1) (i 2) (i 3))
    · rw [Cert.QkvRefIdeal.Read.val_main_v14_eq, h0, h1]
      funext i
      exact (congrArg _ (show i = ix4 (i 0) (i 1) (i 2) (i 3) from by idx_ext)).trans (Cert.QkvRefIdeal.Pf.out4_at _ _ (i 0) (i 1) (i 2) (i 3))

theorem claim : Cert.Claim :=
  ⟨Cert.Ffn.Gen.facts, Cert.FfnIdeal.Gen.facts, Cert.FfnRefIdeal.Gen.facts, Cert.FfnPe.Gen.facts, Cert.FfnPeIdeal.Gen.facts, Cert.FfnPeRefIdeal.Gen.facts,
    Cert.Zx.Gen.facts, Cert.ZxIdeal.Gen.facts, Cert.ZxRefIdeal.Gen.facts,
    Cert.Qkv.Gen.facts, Cert.QkvIdeal.Gen.facts, Cert.QkvRefIdeal.Gen.facts,
    frame_Ffn, fun m g _ => Cert.FfnIdeal.Gen.frame m g, frame_FfnRefIdeal,
    frame_FfnPe, fun m g _ => Cert.FfnPeIdeal.Gen.frame m g, frame_FfnPeRefIdeal,
    frame_Zx, fun m g _ => Cert.ZxIdeal.Gen.frame m g, frame_ZxRefIdeal,
    frame_Qkv, fun m g _ => Cert.QkvIdeal.Gen.frame m g, frame_QkvRefIdeal,
    trivial, value_Ffn, trivial, value_FfnPe, trivial, value_Zx, trivial, value_Qkv⟩

end Cert.Proof

end
